-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_LnRes (m : (ℓ : Loc Cert.LnRes.nD Cert.LnRes.τ Cert.LnRes.sig) → Buf (Elt Bits) ℓ) : Prop :=
  True

def Pre_LnResIdeal (m : (ℓ : Loc Cert.LnResIdeal.nD Cert.LnResIdeal.τ Cert.LnResIdeal.sig) → Buf (Elt Ideal) ℓ) : Prop :=
  True

def Pre_LnResRefIdeal (m : (ℓ : Loc Cert.LnResRefIdeal.nD Cert.LnResRefIdeal.τ Cert.LnResRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_LnRes [hLnRes : Cert.LnRes.Facts] : Prop :=
  ∀ (m : (ℓ : Loc Cert.LnRes.nD Cert.LnRes.τ Cert.LnRes.sig) → Buf (Elt Bits) ℓ) (g : Dev Cert.LnRes.nD → PrngReg), Pre_LnRes m →
    θ_run (Cert.LnRes.defs (F := Bits)) (onTc (τ := Cert.LnRes.τ) (Cert.LnRes.main (F := Bits))) ⟨m, fun _ => 0, g⟩ (fun r => (∀ c : Dev Cert.LnRes.nD,
      r.2.mem ((c.tc : Thread Cert.LnRes.nD Cert.LnRes.τ).loc Cert.LnRes.main_arg0) = m ((c.tc : Thread Cert.LnRes.nD Cert.LnRes.τ).loc Cert.LnRes.main_arg0)
      ∧ r.2.mem ((c.tc : Thread Cert.LnRes.nD Cert.LnRes.τ).loc Cert.LnRes.main_arg1) = m ((c.tc : Thread Cert.LnRes.nD Cert.LnRes.τ).loc Cert.LnRes.main_arg1)
      ∧ r.2.mem ((c.tc : Thread Cert.LnRes.nD Cert.LnRes.τ).loc Cert.LnRes.main_arg2) = m ((c.tc : Thread Cert.LnRes.nD Cert.LnRes.τ).loc Cert.LnRes.main_arg2)
      ∧ r.2.mem ((c.tc : Thread Cert.LnRes.nD Cert.LnRes.τ).loc Cert.LnRes.main_arg3) = m ((c.tc : Thread Cert.LnRes.nD Cert.LnRes.τ).loc Cert.LnRes.main_arg3))
      ∧ r.2.sem = fun _ => 0)

def quiescent_LnResIdeal [hLnResIdeal : Cert.LnResIdeal.Facts] : Prop :=
  ∀ (m : (ℓ : Loc Cert.LnResIdeal.nD Cert.LnResIdeal.τ Cert.LnResIdeal.sig) → Buf (Elt Ideal) ℓ) (g : Dev Cert.LnResIdeal.nD → PrngReg), Pre_LnResIdeal m →
    θ_run (Cert.LnResIdeal.defs (F := Ideal)) (onTc (τ := Cert.LnResIdeal.τ) (Cert.LnResIdeal.main (F := Ideal))) ⟨m, fun _ => 0, g⟩ (fun r => (∀ c : Dev Cert.LnResIdeal.nD,
      r.2.mem ((c.tc : Thread Cert.LnResIdeal.nD Cert.LnResIdeal.τ).loc Cert.LnResIdeal.main_arg0) = m ((c.tc : Thread Cert.LnResIdeal.nD Cert.LnResIdeal.τ).loc Cert.LnResIdeal.main_arg0)
      ∧ r.2.mem ((c.tc : Thread Cert.LnResIdeal.nD Cert.LnResIdeal.τ).loc Cert.LnResIdeal.main_arg1) = m ((c.tc : Thread Cert.LnResIdeal.nD Cert.LnResIdeal.τ).loc Cert.LnResIdeal.main_arg1)
      ∧ r.2.mem ((c.tc : Thread Cert.LnResIdeal.nD Cert.LnResIdeal.τ).loc Cert.LnResIdeal.main_arg2) = m ((c.tc : Thread Cert.LnResIdeal.nD Cert.LnResIdeal.τ).loc Cert.LnResIdeal.main_arg2)
      ∧ r.2.mem ((c.tc : Thread Cert.LnResIdeal.nD Cert.LnResIdeal.τ).loc Cert.LnResIdeal.main_arg3) = m ((c.tc : Thread Cert.LnResIdeal.nD Cert.LnResIdeal.τ).loc Cert.LnResIdeal.main_arg3))
      ∧ r.2.sem = fun _ => 0)

def quiescent_LnResRefIdeal [hLnResRefIdeal : Cert.LnResRefIdeal.Facts] : Prop :=
  ∀ (m : (ℓ : Loc Cert.LnResRefIdeal.nD Cert.LnResRefIdeal.τ Cert.LnResRefIdeal.sig) → Buf (Elt Ideal) ℓ) (g : Dev Cert.LnResRefIdeal.nD → PrngReg), Pre_LnResRefIdeal m →
    θ_run (Cert.LnResRefIdeal.defs (F := Ideal)) (onTc (τ := Cert.LnResRefIdeal.τ) (Cert.LnResRefIdeal.main (F := Ideal))) ⟨m, fun _ => 0, g⟩ (fun r => (∀ c : Dev Cert.LnResRefIdeal.nD,
      r.2.mem ((c.tc : Thread Cert.LnResRefIdeal.nD Cert.LnResRefIdeal.τ).loc Cert.LnResRefIdeal.main_arg0) = m ((c.tc : Thread Cert.LnResRefIdeal.nD Cert.LnResRefIdeal.τ).loc Cert.LnResRefIdeal.main_arg0)
      ∧ r.2.mem ((c.tc : Thread Cert.LnResRefIdeal.nD Cert.LnResRefIdeal.τ).loc Cert.LnResRefIdeal.main_arg1) = m ((c.tc : Thread Cert.LnResRefIdeal.nD Cert.LnResRefIdeal.τ).loc Cert.LnResRefIdeal.main_arg1)
      ∧ r.2.mem ((c.tc : Thread Cert.LnResRefIdeal.nD Cert.LnResRefIdeal.τ).loc Cert.LnResRefIdeal.main_arg2) = m ((c.tc : Thread Cert.LnResRefIdeal.nD Cert.LnResRefIdeal.τ).loc Cert.LnResRefIdeal.main_arg2)
      ∧ r.2.mem ((c.tc : Thread Cert.LnResRefIdeal.nD Cert.LnResRefIdeal.τ).loc Cert.LnResRefIdeal.main_arg3) = m ((c.tc : Thread Cert.LnResRefIdeal.nD Cert.LnResRefIdeal.τ).loc Cert.LnResRefIdeal.main_arg3))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def preserves_Swa_SwaIdeal : Prop :=
  IdealRules.named_const.Statement Cert.SwaIdeal.κ "eighth_log2e" .f32 0x3E38AA3B#32 ((8⁻¹ * (Real.log 2)⁻¹ : ℝ) : EReal)
  ∧ IdealRules.named_const.Statement Cert.SwaIdeal.κ "log2e" .f32 0x3FB8AA3B#32 (((Real.log 2)⁻¹ : ℝ) : EReal)
  ∧ IdealRules.named_const.Statement Cert.SwaIdeal.κ "slope0" .f32 0x3F8293EE#32 (((Real.sqrt 2)⁻¹ * (Real.log 2)⁻¹ : ℝ) : EReal)
  ∧ IdealRules.named_const.Statement Cert.SwaIdeal.κ "slope1" .f32 0x3F38AA3B#32 (((Real.sqrt 4)⁻¹ * (Real.log 2)⁻¹ : ℝ) : EReal)
  ∧ IdealRules.named_const.Statement Cert.SwaIdeal.κ "slope2" .f32 0x3F0293EE#32 (((Real.sqrt 8)⁻¹ * (Real.log 2)⁻¹ : ℝ) : EReal)
  ∧ IdealRules.named_const.Statement Cert.SwaIdeal.κ "slope3" .f32 0x3EB8AA3B#32 (((Real.sqrt 16)⁻¹ * (Real.log 2)⁻¹ : ℝ) : EReal)
  ∧ IdealRules.named_const.Statement Cert.SwaIdeal.κ "slope4" .f32 0x3E8293EE#32 (((Real.sqrt 32)⁻¹ * (Real.log 2)⁻¹ : ℝ) : EReal)
  ∧ IdealRules.named_const.Statement Cert.SwaIdeal.κ "slope6" .f32 0x3E0293EE#32 (((Real.sqrt 128)⁻¹ * (Real.log 2)⁻¹ : ℝ) : EReal)
  ∧ IdealRules.named_const.Statement Cert.SwaIdeal.κ "slope7" .f32 0x3DB8AA3B#32 (((Real.sqrt 256)⁻¹ * (Real.log 2)⁻¹ : ℝ) : EReal)
  ∧ IdealRules.named_const.Statement Cert.SwaIdeal.κ "slope8" .f32 0x3D8293EE#32 (((Real.sqrt 512)⁻¹ * (Real.log 2)⁻¹ : ℝ) : EReal)
  ∧ IdealRules.named_const.Statement Cert.SwaIdeal.κ "slope9" .f32 0x3D38AA3B#32 (((Real.sqrt 1024)⁻¹ * (Real.log 2)⁻¹ : ℝ) : EReal)
  ∧ IdealRules.named_const.Statement Cert.SwaIdeal.κ "slope10" .f32 0x3D0293EE#32 (((Real.sqrt 2048)⁻¹ * (Real.log 2)⁻¹ : ℝ) : EReal)
  ∧ IdealRules.named_const.Statement Cert.SwaIdeal.κ "slope11" .f32 0x3CB8AA3B#32 (((Real.sqrt 4096)⁻¹ * (Real.log 2)⁻¹ : ℝ) : EReal)
  ∧ IdealRules.named_const.Statement Cert.SwaIdeal.κ "slope12" .f32 0x3C8293EE#32 (((Real.sqrt 8192)⁻¹ * (Real.log 2)⁻¹ : ℝ) : EReal)
  ∧ IdealRules.named_const.Statement Cert.SwaIdeal.κ "slope13" .f32 0x3C38AA3B#32 (((Real.sqrt 16384)⁻¹ * (Real.log 2)⁻¹ : ℝ) : EReal)
  ∧ IdealRules.named_const.Statement Cert.SwaIdeal.κ "slope14" .f32 0x3C0293EE#32 (((Real.sqrt 32768)⁻¹ * (Real.log 2)⁻¹ : ℝ) : EReal)
  ∧ IdealRules.named_const.Statement Cert.SwaIdeal.κ "slope15" .f32 0x3BB8AA3B#32 (((Real.sqrt 65536)⁻¹ * (Real.log 2)⁻¹ : ℝ) : EReal)

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v2)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v2) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v97) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v0)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v0) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v6) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v8) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_LnRes_LnResIdeal : Prop :=
  True

def algebraic_LnResIdeal_LnResRefIdeal [hLnResIdeal : Cert.LnResIdeal.Facts] [hLnResRefIdeal : Cert.LnResRefIdeal.Facts] : Prop :=
  ∀ (m : (ℓ : Loc Cert.LnResIdeal.nD Cert.LnResIdeal.τ Cert.LnResIdeal.sig) → Buf (Elt Ideal) ℓ) (g : Dev Cert.LnResIdeal.nD → PrngReg)
    (m' : (ℓ : Loc Cert.LnResRefIdeal.nD Cert.LnResRefIdeal.τ Cert.LnResRefIdeal.sig) → Buf (Elt Ideal) ℓ) (g' : Dev Cert.LnResRefIdeal.nD → PrngReg), Pre_LnResIdeal m →
    (∀ c : Dev Cert.LnResIdeal.nD,
      m' ((c.tc : Thread Cert.LnResRefIdeal.nD Cert.LnResRefIdeal.τ).loc Cert.LnResRefIdeal.main_arg0) = m ((c.tc : Thread Cert.LnResIdeal.nD Cert.LnResIdeal.τ).loc Cert.LnResIdeal.main_arg0)
      ∧ m' ((c.tc : Thread Cert.LnResRefIdeal.nD Cert.LnResRefIdeal.τ).loc Cert.LnResRefIdeal.main_arg1) = m ((c.tc : Thread Cert.LnResIdeal.nD Cert.LnResIdeal.τ).loc Cert.LnResIdeal.main_arg1)
      ∧ m' ((c.tc : Thread Cert.LnResRefIdeal.nD Cert.LnResRefIdeal.τ).loc Cert.LnResRefIdeal.main_arg2) = m ((c.tc : Thread Cert.LnResIdeal.nD Cert.LnResIdeal.τ).loc Cert.LnResIdeal.main_arg2)
      ∧ m' ((c.tc : Thread Cert.LnResRefIdeal.nD Cert.LnResRefIdeal.τ).loc Cert.LnResRefIdeal.main_arg3) = m ((c.tc : Thread Cert.LnResIdeal.nD Cert.LnResIdeal.τ).loc Cert.LnResIdeal.main_arg3)) →
    ∃ (v0 : (c : Dev Cert.LnResIdeal.nD) → Buf (Elt Ideal) ((c.tc : Thread Cert.LnResIdeal.nD Cert.LnResIdeal.τ).loc Cert.LnResIdeal.main_v2_0)) (v1 : (c : Dev Cert.LnResIdeal.nD) → Buf (Elt Ideal) ((c.tc : Thread Cert.LnResIdeal.nD Cert.LnResIdeal.τ).loc Cert.LnResIdeal.main_v2_1)),
      θ_run (Cert.LnResIdeal.defs (F := Ideal)) (onTc (τ := Cert.LnResIdeal.τ) (Cert.LnResIdeal.main (F := Ideal))) ⟨m, fun _ => 0, g⟩ (fun r => ∀ c : Dev Cert.LnResIdeal.nD,
          r.2.mem ((c.tc : Thread Cert.LnResIdeal.nD Cert.LnResIdeal.τ).loc Cert.LnResIdeal.main_v2_0) = v0 c
          ∧ r.2.mem ((c.tc : Thread Cert.LnResIdeal.nD Cert.LnResIdeal.τ).loc Cert.LnResIdeal.main_v2_1) = v1 c
          ∧ r.2.mem ((c.tc : Thread Cert.LnResIdeal.nD Cert.LnResIdeal.τ).loc Cert.LnResIdeal.main_arg0) = m ((c.tc : Thread Cert.LnResIdeal.nD Cert.LnResIdeal.τ).loc Cert.LnResIdeal.main_arg0)
          ∧ r.2.mem ((c.tc : Thread Cert.LnResIdeal.nD Cert.LnResIdeal.τ).loc Cert.LnResIdeal.main_arg1) = m ((c.tc : Thread Cert.LnResIdeal.nD Cert.LnResIdeal.τ).loc Cert.LnResIdeal.main_arg1)
          ∧ r.2.mem ((c.tc : Thread Cert.LnResIdeal.nD Cert.LnResIdeal.τ).loc Cert.LnResIdeal.main_arg2) = m ((c.tc : Thread Cert.LnResIdeal.nD Cert.LnResIdeal.τ).loc Cert.LnResIdeal.main_arg2)
          ∧ r.2.mem ((c.tc : Thread Cert.LnResIdeal.nD Cert.LnResIdeal.τ).loc Cert.LnResIdeal.main_arg3) = m ((c.tc : Thread Cert.LnResIdeal.nD Cert.LnResIdeal.τ).loc Cert.LnResIdeal.main_arg3))
      ∧ θ_run (Cert.LnResRefIdeal.defs (F := Ideal)) (onTc (τ := Cert.LnResRefIdeal.τ) (Cert.LnResRefIdeal.main (F := Ideal))) ⟨m', fun _ => 0, g'⟩ (fun r => ∀ c : Dev Cert.LnResRefIdeal.nD,
          r.2.mem ((c.tc : Thread Cert.LnResRefIdeal.nD Cert.LnResRefIdeal.τ).loc Cert.LnResRefIdeal.main_v27) = v0 c
          ∧ r.2.mem ((c.tc : Thread Cert.LnResRefIdeal.nD Cert.LnResRefIdeal.τ).loc Cert.LnResRefIdeal.main_v28) = v1 c
          ∧ r.2.mem ((c.tc : Thread Cert.LnResRefIdeal.nD Cert.LnResRefIdeal.τ).loc Cert.LnResRefIdeal.main_arg0) = m' ((c.tc : Thread Cert.LnResRefIdeal.nD Cert.LnResRefIdeal.τ).loc Cert.LnResRefIdeal.main_arg0)
          ∧ r.2.mem ((c.tc : Thread Cert.LnResRefIdeal.nD Cert.LnResRefIdeal.τ).loc Cert.LnResRefIdeal.main_arg1) = m' ((c.tc : Thread Cert.LnResRefIdeal.nD Cert.LnResRefIdeal.τ).loc Cert.LnResRefIdeal.main_arg1)
          ∧ r.2.mem ((c.tc : Thread Cert.LnResRefIdeal.nD Cert.LnResRefIdeal.τ).loc Cert.LnResRefIdeal.main_arg2) = m' ((c.tc : Thread Cert.LnResRefIdeal.nD Cert.LnResRefIdeal.τ).loc Cert.LnResRefIdeal.main_arg2)
          ∧ r.2.mem ((c.tc : Thread Cert.LnResRefIdeal.nD Cert.LnResRefIdeal.τ).loc Cert.LnResRefIdeal.main_arg3) = m' ((c.tc : Thread Cert.LnResRefIdeal.nD Cert.LnResRefIdeal.τ).loc Cert.LnResRefIdeal.main_arg3))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)) →
    ∃ (v0 : (c : Dev Cert.WInIdeal.nD) → Buf (Elt Ideal) ((c.tc : Thread Cert.WInIdeal.nD Cert.WInIdeal.τ).loc Cert.WInIdeal.main_v1)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v1) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v15) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v2_0)) (v1 : (c : Dev Cert.LnInIdeal.nD) → Buf (Elt Ideal) ((c.tc : Thread Cert.LnInIdeal.nD Cert.LnInIdeal.τ).loc Cert.LnInIdeal.main_v2_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v2_0) = v0 c
          ∧ r.2.mem ((c.tc : Thread Cert.LnInIdeal.nD Cert.LnInIdeal.τ).loc Cert.LnInIdeal.main_v2_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v23) = v0 c
          ∧ r.2.mem ((c.tc : Thread Cert.LnInRefIdeal.nD Cert.LnInRefIdeal.τ).loc Cert.LnInRefIdeal.main_v24) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def Claim : Prop :=
  ∃ (hSwa : Cert.Swa.Facts) (hSwaIdeal : Cert.SwaIdeal.Facts) (hSwaRefIdeal : Cert.SwaRefIdeal.Facts) (hInGates : Cert.InGates.Facts) (hInGatesIdeal : Cert.InGatesIdeal.Facts) (hInGatesRefIdeal : Cert.InGatesRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hDown : Cert.Down.Facts) (hDownIdeal : Cert.DownIdeal.Facts) (hDownRefIdeal : Cert.DownRefIdeal.Facts) (hLnRes : Cert.LnRes.Facts) (hLnResIdeal : Cert.LnResIdeal.Facts) (hLnResRefIdeal : Cert.LnResRefIdeal.Facts) (hWIn : Cert.WIn.Facts) (hWInIdeal : Cert.WInIdeal.Facts) (hWInRefIdeal : Cert.WInRefIdeal.Facts) (hLnIn : Cert.LnIn.Facts) (hLnInIdeal : Cert.LnInIdeal.Facts) (hLnInRefIdeal : Cert.LnInRefIdeal.Facts) (hPre_swa_finite : Cert.Pre_swa_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_InGates (hInGates := hInGates)
    ∧ quiescent_InGatesIdeal (hInGatesIdeal := hInGatesIdeal)
    ∧ quiescent_InGatesRefIdeal (hInGatesRefIdeal := hInGatesRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ quiescent_Down (hDown := hDown)
    ∧ quiescent_DownIdeal (hDownIdeal := hDownIdeal)
    ∧ quiescent_DownRefIdeal (hDownRefIdeal := hDownRefIdeal)
    ∧ quiescent_LnRes (hLnRes := hLnRes)
    ∧ quiescent_LnResIdeal (hLnResIdeal := hLnResIdeal)
    ∧ quiescent_LnResRefIdeal (hLnResRefIdeal := hLnResRefIdeal)
    ∧ quiescent_WIn (hWIn := hWIn)
    ∧ quiescent_WInIdeal (hWInIdeal := hWInIdeal)
    ∧ quiescent_WInRefIdeal (hWInRefIdeal := hWInRefIdeal)
    ∧ quiescent_LnIn (hLnIn := hLnIn)
    ∧ quiescent_LnInIdeal (hLnInIdeal := hLnInIdeal)
    ∧ quiescent_LnInRefIdeal (hLnInRefIdeal := hLnInRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_InGates_InGatesIdeal
    ∧ algebraic_InGatesIdeal_InGatesRefIdeal (hInGatesIdeal := hInGatesIdeal) (hInGatesRefIdeal := hInGatesRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
    ∧ preserves_Down_DownIdeal
    ∧ algebraic_DownIdeal_DownRefIdeal (hDownIdeal := hDownIdeal) (hDownRefIdeal := hDownRefIdeal)
    ∧ preserves_LnRes_LnResIdeal
    ∧ algebraic_LnResIdeal_LnResRefIdeal (hLnResIdeal := hLnResIdeal) (hLnResRefIdeal := hLnResRefIdeal)
    ∧ preserves_WIn_WInIdeal
    ∧ algebraic_WInIdeal_WInRefIdeal (hWInIdeal := hWInIdeal) (hWInRefIdeal := hWInRefIdeal)
    ∧ preserves_LnIn_LnInIdeal
    ∧ algebraic_LnInIdeal_LnInRefIdeal (hLnInIdeal := hLnInIdeal) (hLnInRefIdeal := hLnInRefIdeal)
-- ==== Pre_swa_finite.lean ====
abbrev S16384x9728 : Shape := ⟨2, ![16384, 9728]⟩
abbrev S16 : Shape := ⟨1, ![16]⟩
abbrev S16384x1152 : Shape := ⟨2, ![16384, 1152]⟩
abbrev S_ : Shape := ⟨0, ![]⟩

class Facts : Prop where
  slices_S16384x9728_S16384x1152_0_8192 : S16384x9728.Slices ![0, 8192] S16384x1152
  bcast_S_S16384x1152 : S_.BroadcastsInDim S16384x1152 (![] : Fin 0 → Fin S16384x1152.rank)
  bcast_S_S16 : S_.BroadcastsInDim S16 (![] : Fin 0 → Fin S16.rank)

variable [Facts]

def fn {F : FTy → Type} [FloatOps F] (main_arg0 : FVec F S16384x9728 .f32) (main_arg1 : FVec F S16 .f32) : IVec S16384x1152 1 × IVec S16 1 :=
  let main_v0 : FVec F S16384x1152 .f32 := (extractStridedSlice S16384x1152 ![0, 8192] · slices_S16384x9728_S16384x1152_0_8192) main_arg0
  let main_v1 : FVec F S16384x1152 .f32 := Host.absf main_v0
  let main_cst : FVec F S_ .f32 := constant S_ .f32 0x7F800000#32
  let main_v2 : FVec F S16384x1152 .f32 := broadcastInDim S16384x1152 ![] bcast_S_S16384x1152 main_cst
  let main_v3 : IVec S16384x1152 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Swa.lean ====
abbrev S16384x9728 : Shape := ⟨2, ![16384, 9728]⟩
abbrev S16 : Shape := ⟨1, ![16]⟩
abbrev S16x1 : Shape := ⟨2, ![16, 1]⟩
abbrev S16x128 : Shape := ⟨2, ![16, 128]⟩
abbrev S16384x1024 : Shape := ⟨2, ![16384, 1024]⟩
abbrev S128x1024 : Shape := ⟨2, ![128, 1024]⟩
abbrev S128x128 : Shape := ⟨2, ![128, 128]⟩
abbrev S256x128 : Shape := ⟨2, ![256, 128]⟩
abbrev S256x64 : Shape := ⟨2, ![256, 64]⟩
abbrev S1x128 : Shape := ⟨2, ![1, 128]⟩
abbrev S128 : Shape := ⟨1, ![128]⟩

abbrev nBuf : Space → Nat
  | .hbm => 5
  | .vmem => 13
  | .smem => 0
  | _ => 0

abbrev bufTy : (tb : Table) → Fin (tcTables nBuf tb) → BufTy
  | .hbm, ⟨0, _⟩ => ⟨S16384x9728, .f32⟩
  | .hbm, ⟨1, _⟩ => ⟨S16, .f32⟩
  | .hbm, ⟨2, _⟩ => ⟨S16x1, .f32⟩
  | .hbm, ⟨3, _⟩ => ⟨S16x128, .f32⟩
  | .hbm, ⟨4, _⟩ => ⟨S16384x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S128x1024, .bf16⟩
  | .local _ .vmem, ⟨12, _⟩ => ⟨S128x1024, .bf16⟩
  | _, _ => ⟨S16384x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c72_i32 : BitVec 32 := 72#32
  let c0_i32 : BitVec 32 := 0#32
  ![v1.toNat, c72_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c73_i32 : BitVec 32 := 73#32
  let c0_i32 : BitVec 32 := 0#32
  ![v1.toNat, c73_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c72_i32 : BitVec 32 := 72#32
  let c0_i32_0 : BitVec 32 := 0#32
  ![v3.toNat, c72_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c73_i32 : BitVec 32 := 73#32
  let c0_i32_0 : BitVec 32 := 0#32
  ![v3.toNat, c73_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "eighth_log2e" => some ((8⁻¹ * (Real.log 2)⁻¹ : ℝ) : EReal)
  | "log2e" => some (((Real.log 2)⁻¹ : ℝ) : EReal)
  | "slope0" => some (((Real.sqrt 2)⁻¹ * (Real.log 2)⁻¹ : ℝ) : EReal)
  | "slope1" => some (((Real.sqrt 4)⁻¹ * (Real.log 2)⁻¹ : ℝ) : EReal)
  | "slope10" => some (((Real.sqrt 2048)⁻¹ * (Real.log 2)⁻¹ : ℝ) : EReal)
  | "slope11" => some (((Real.sqrt 4096)⁻¹ * (Real.log 2)⁻¹ : ℝ) : EReal)
  | "slope12" => some (((Real.sqrt 8192)⁻¹ * (Real.log 2)⁻¹ : ℝ) : EReal)
  | "slope13" => some (((Real.sqrt 16384)⁻¹ * (Real.log 2)⁻¹ : ℝ) : EReal)
  | "slope14" => some (((Real.sqrt 32768)⁻¹ * (Real.log 2)⁻¹ : ℝ) : EReal)
  | "slope15" => some (((Real.sqrt 65536)⁻¹ * (Real.log 2)⁻¹ : ℝ) : EReal)
  | "slope2" => some (((Real.sqrt 8)⁻¹ * (Real.log 2)⁻¹ : ℝ) : EReal)
  | "slope3" => some (((Real.sqrt 16)⁻¹ * (Real.log 2)⁻¹ : ℝ) : EReal)
  | "slope4" => some (((Real.sqrt 32)⁻¹ * (Real.log 2)⁻¹ : ℝ) : EReal)
  | "slope6" => some (((Real.sqrt 128)⁻¹ * (Real.log 2)⁻¹ : ℝ) : EReal)
  | "slope7" => some (((Real.sqrt 256)⁻¹ * (Real.log 2)⁻¹ : ℝ) : EReal)
  | "slope8" => some (((Real.sqrt 512)⁻¹ * (Real.log 2)⁻¹ : ℝ) : EReal)
  | "slope9" => some (((Real.sqrt 1024)⁻¹ * (Real.log 2)⁻¹ : ℝ) : EReal)
  | _ => none
-- ==== SwaRefIdeal.lean ====
abbrev S16384x9728 : Shape := ⟨2, ![16384, 9728]⟩
abbrev S16 : Shape := ⟨1, ![16]⟩
abbrev S16384x1024 : Shape := ⟨2, ![16384, 1024]⟩
abbrev S4x4096x16x64 : Shape := ⟨4, ![4, 4096, 16, 64]⟩
abbrev S16384x128 : Shape := ⟨2, ![16384, 128]⟩
abbrev S4x4096x2x64 : Shape := ⟨4, ![4, 4096, 2, 64]⟩
abbrev S4x32x128x2x8x64 : Shape := ⟨6, ![4, 32, 128, 2, 8, 64]⟩
abbrev S4x32x128x2x64 : Shape := ⟨5, ![4, 32, 128, 2, 64]⟩
abbrev S4x1x128x2x64 : Shape := ⟨5, ![4, 1, 128, 2, 64]⟩
abbrev S_ : Shape := ⟨0, ![]⟩
abbrev S4x31x128x2x64 : Shape := ⟨5, ![4, 31, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S1x1x2x8x1x1 : Shape := ⟨6, ![1, 1, 2, 8, 1, 1]⟩
abbrev S4x32x2x8x128 : Shape := ⟨5, ![4, 32, 2, 8, 128]⟩
abbrev S4x32x2x8x128x1 : Shape := ⟨6, ![4, 32, 2, 8, 128, 1]⟩
abbrev S4x32x2x64x8x128 : Shape := ⟨6, ![4, 32, 2, 64, 8, 128]⟩

abbrev nBuf : Space → Nat
  | .hbm => 118
  | .vmem => 0
  | .smem => 0
  | _ => 0

abbrev bufTy : (tb : Table) → Fin (tcTables nBuf tb) → BufTy
  | .hbm, ⟨0, _⟩ => ⟨S16384x9728, .f32⟩
  | .hbm, ⟨1, _⟩ => ⟨S16, .f32⟩
  | .hbm, ⟨2, _⟩ => ⟨S16384x1024, .f32⟩
  | .hbm, ⟨3, _⟩ => ⟨S4x4096x16x64, .f32⟩
  | .hbm, ⟨4, _⟩ => ⟨S16384x128, .f32⟩
  | .hbm, ⟨5, _⟩ => ⟨S4x4096x2x64, .f32⟩
  | .hbm, ⟨6, _⟩ => ⟨S16384x128, .f32⟩
  | .hbm, ⟨7, _⟩ => ⟨S4x4096x2x64, .f32⟩
  | .hbm, ⟨8, _⟩ => ⟨S4x32x128x2x8x64, .f32⟩
  | .hbm, ⟨9, _⟩ => ⟨S4x32x128x2x64, .f32⟩
  | .hbm, ⟨10, _⟩ => ⟨S4x32x128x2x64, .f32⟩
  | .hbm, ⟨11, _⟩ => ⟨S4x1x128x2x64, .f32⟩
  | .hbm, ⟨12, _⟩ => ⟨S_, .f32⟩
  | .hbm, ⟨13, _⟩ => ⟨S4x1x128x2x64, .f32⟩
  | .hbm, ⟨14, _⟩ => ⟨S4x31x128x2x64, .f32⟩
  | .hbm, ⟨15, _⟩ => ⟨S4x32x128x2x64, .f32⟩
  | .hbm, ⟨16, _⟩ => ⟨S4x32x256x2x64, .f32⟩
  | .hbm, ⟨17, _⟩ => ⟨S4x31x128x2x64, .f32⟩
  | .hbm, ⟨18, _⟩ => ⟨S4x32x128x2x64, .f32⟩
  | .hbm, ⟨19, _⟩ => ⟨S4x32x256x2x64, .f32⟩
  | .hbm, ⟨20, _⟩ => ⟨S4x32x2x256x128x8, .f32⟩
  | .hbm, ⟨21, _⟩ => ⟨S4x32x2x8x128x256, .f32⟩
  | .hbm, ⟨22, _⟩ => ⟨S_, .f32⟩
  | .hbm, ⟨23, _⟩ => ⟨S4x32x2x8x128x256, .f32⟩
  | .hbm, ⟨24, _⟩ => ⟨S4x32x2x8x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S256, .i32⟩
  | .hbm, ⟨44, _⟩ => ⟨S1x256, .i32⟩
  | .hbm, ⟨45, _⟩ => ⟨S32x256, .i32⟩
  | .hbm, ⟨46, _⟩ => ⟨S32x256, .i32⟩
  | .hbm, ⟨47, _⟩ => ⟨S32x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .i32⟩
  | .hbm, ⟨57, _⟩ => ⟨S32x256, .i32⟩
  | .hbm, ⟨58, _⟩ => ⟨S32x256, .i1⟩
  | .hbm, ⟨59, _⟩ => ⟨S32x1x256, .i1⟩
  | .hbm, ⟨60, _⟩ => ⟨S32x128x256, .i1⟩
  | .hbm, ⟨61, _⟩ => ⟨S32x128x256, .i1⟩
  | .hbm, ⟨62, _⟩ => ⟨S32x128x256, .i1⟩
  | .hbm, ⟨63, _⟩ => ⟨S_, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S16, .f32⟩
  | .hbm, ⟨79, _⟩ => ⟨S2x8, .f32⟩
  | .hbm, ⟨80, _⟩ => ⟨S2x8x1x1, .f32⟩
  | .hbm, ⟨81, _⟩ => ⟨S128x256, .f32⟩
  | .hbm, ⟨82, _⟩ => ⟨S1x1x128x256, .f32⟩
  | .hbm, ⟨83, _⟩ => ⟨S2x8x128x256, .f32⟩
  | .hbm, ⟨84, _⟩ => ⟨S2x8x128x256, .f32⟩
  | .hbm, ⟨85, _⟩ => ⟨S2x8x128x256, .f32⟩
  | .hbm, ⟨86, _⟩ => ⟨S1x1x2x8x128x256, .f32⟩
  | .hbm, ⟨87, _⟩ => ⟨S4x32x2x8x128x256, .f32⟩
  | .hbm, ⟨88, _⟩ => ⟨S4x32x2x8x128x256, .f32⟩
  | .hbm, ⟨89, _⟩ => ⟨S1x32x1x1x128x256, .i1⟩
  | .hbm, ⟨90, _⟩ => ⟨S_, .f32⟩
  | .hbm, ⟨91, _⟩ => ⟨S_, .f32⟩
  | .hbm, ⟨92, _⟩ => ⟨S4x32x2x8x128x256, .i1⟩
  | .hbm, ⟨93, _⟩ => ⟨S4x32x2x8x128x256, .f32⟩
  | .hbm, ⟨94, _⟩ => ⟨S4x32x2x8x128x256, .f32⟩
  | .hbm, ⟨95, _⟩ => ⟨S2x8, .f32⟩
  | .hbm, ⟨96, _⟩ => ⟨S1x1x2x8x1x1, .f32⟩
  | .hbm, ⟨97, _⟩ => ⟨S_, .f32⟩
  | .hbm, ⟨98, _⟩ => ⟨S4x32x2x8x128, .f32⟩
  | .hbm, ⟨99, _⟩ => ⟨S4x32x2x8x128x1, .f32⟩
  | .hbm, ⟨100, _⟩ => ⟨S4x32x2x8x128x1, .f32⟩
  | .hbm, ⟨101, _⟩ => ⟨S4x32x2x8x128x1, .f32⟩
  | .hbm, ⟨102, _⟩ => ⟨S4x32x2x8x128x256, .f32⟩
  | .hbm, ⟨103, _⟩ => ⟨S4x32x2x8x128x256, .f32⟩
  | .hbm, ⟨104, _⟩ => ⟨S4x32x2x8x128x256, .f32⟩
  | .hbm, ⟨105, _⟩ => ⟨S_, .f32⟩
  | .hbm, ⟨106, _⟩ => ⟨S4x32x2x8x128, .f32⟩
  | .hbm, ⟨107, _⟩ => ⟨S4x32x2x8x128x1, .f32⟩
  | .hbm, ⟨108, _⟩ => ⟨S4x32x2x8x128x1, .f32⟩
  | .hbm, ⟨109, _⟩ => ⟨S4x32x2x8x128x1, .f32⟩
  | .hbm, ⟨110, _⟩ => ⟨S4x32x2x8x128x1, .f32⟩
  | .hbm, ⟨111, _⟩ => ⟨S4x32x2x8x128x1, .f32⟩
  | .hbm, ⟨112, _⟩ => ⟨S4x32x2x8x128x256, .f32⟩
  | .hbm, ⟨113, _⟩ => ⟨S4x32x2x8x128x256, .f32⟩
  | .hbm, ⟨114, _⟩ => ⟨S4x32x2x64x8x128, .f32⟩
  | .hbm, ⟨115, _⟩ => ⟨S4x32x128x2x8x64, .f32⟩
  | .hbm, ⟨116, _⟩ => ⟨S16384x1024, .f32⟩
  | .hbm, ⟨117, _⟩ => ⟨S16384x1024, .bf16⟩
  | _, _ => ⟨S16384x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_1 : Ref sig .tc := ⟨.hbm, 37, rfl⟩
abbrev main_v32 : Ref sig .tc := ⟨.hbm, 38, rfl⟩
abbrev main_v33 : Ref sig .tc := ⟨.hbm, 39, rfl⟩
abbrev main_c_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_10 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]
-- ==== InGates.lean ====
abbrev S16384x4096 : Shape := ⟨2, ![16384, 4096]⟩
abbrev S2x22016x4096 : Shape := ⟨3, ![2, 22016, 4096]⟩
abbrev S16384x12288 : Shape := ⟨2, ![16384, 12288]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x22016x4096, .bf16⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesRefIdeal.lean ====
abbrev S16384x4096 : Shape := ⟨2, ![16384, 4096]⟩
abbrev S2x22016x4096 : Shape := ⟨3, ![2, 22016, 4096]⟩
abbrev S1x12288x4096 : Shape := ⟨3, ![1, 12288, 4096]⟩
abbrev S12288x4096 : Shape := ⟨2, ![12288, 4096]⟩
abbrev S4096x12288 : Shape := ⟨2, ![4096, 12288]⟩
abbrev S16384x12288 : Shape := ⟨2, ![16384, 12288]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x22016x4096, .bf16⟩
  | .hbm, ⟨2, _⟩ => ⟨S16384x4096, .f32⟩
  | .hbm, ⟨3, _⟩ => ⟨S1x12288x4096, .bf16⟩
  | .hbm, ⟨4, _⟩ => ⟨S12288x4096, .bf16⟩
  | .hbm, ⟨5, _⟩ => ⟨S12288x4096, .f32⟩
  | .hbm, ⟨6, _⟩ => ⟨S4096x12288, .f32⟩
  | .hbm, ⟨7, _⟩ => ⟨S16384x12288, .f32⟩
  | .hbm, ⟨8, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InProj.lean ====
abbrev S16384x4096 : Shape := ⟨2, ![16384, 4096]⟩
abbrev S2x22016x4096 : Shape := ⟨3, ![2, 22016, 4096]⟩
abbrev S16384x9728 : Shape := ⟨2, ![16384, 9728]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x22016x4096, .bf16⟩
  | .hbm, ⟨2, _⟩ => ⟨S16384x9728, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x4096 : Shape := ⟨2, ![16384, 4096]⟩
abbrev S2x22016x4096 : Shape := ⟨3, ![2, 22016, 4096]⟩
abbrev S1x9728x4096 : Shape := ⟨3, ![1, 9728, 4096]⟩
abbrev S9728x4096 : Shape := ⟨2, ![9728, 4096]⟩
abbrev S4096x9728 : Shape := ⟨2, ![4096, 9728]⟩
abbrev S16384x9728 : Shape := ⟨2, ![16384, 9728]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x22016x4096, .bf16⟩
  | .hbm, ⟨2, _⟩ => ⟨S16384x4096, .f32⟩
  | .hbm, ⟨3, _⟩ => ⟨S1x9728x4096, .bf16⟩
  | .hbm, ⟨4, _⟩ => ⟨S9728x4096, .bf16⟩
  | .hbm, ⟨5, _⟩ => ⟨S9728x4096, .f32⟩
  | .hbm, ⟨6, _⟩ => ⟨S4096x9728, .f32⟩
  | .hbm, ⟨7, _⟩ => ⟨S16384x9728, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S16384x4096 : Shape := ⟨2, ![16384, 4096]⟩
abbrev S1024x1024 : Shape := ⟨2, ![1024, 1024]⟩
abbrev S1x3x1024x512 : Shape := ⟨4, ![1, 3, 1024, 512]⟩
abbrev S1024x512 : Shape := ⟨2, ![1024, 512]⟩
abbrev S1x1x1024x512 : Shape := ⟨4, ![1, 1, 1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x3x1024x512, .bf16⟩
  | .local _ .vmem, ⟨7, _⟩ => ⟨S1x3x1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S_ : Shape := ⟨0, ![]⟩
abbrev S16384x3x4096 : Shape := ⟨3, ![16384, 3, 4096]⟩
abbrev S16384x1x4096 : Shape := ⟨3, ![16384, 1, 4096]⟩
abbrev S16384x4096 : Shape := ⟨2, ![16384, 4096]⟩
abbrev S1x1x1024x4096 : Shape := ⟨4, ![1, 1, 1024, 4096]⟩
abbrev S1024x4096 : Shape := ⟨2, ![1024, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S16384x12288, .f32⟩
  | .hbm, ⟨6, _⟩ => ⟨S16384x12288, .f32⟩
  | .hbm, ⟨7, _⟩ => ⟨S16384x12288, .f32⟩
  | .hbm, ⟨8, _⟩ => ⟨S_, .f32⟩
  | .hbm, ⟨9, _⟩ => ⟨S16384x12288, .f32⟩
  | .hbm, ⟨10, _⟩ => ⟨S16384x12288, .f32⟩
  | .hbm, ⟨11, _⟩ => ⟨S_, .f32⟩
  | .hbm, ⟨12, _⟩ => ⟨S16384x12288, .f32⟩
  | .hbm, ⟨13, _⟩ => ⟨S16384x12288, .f32⟩
  | .hbm, ⟨14, _⟩ => ⟨S16384x3x4096, .f32⟩
  | .hbm, ⟨15, _⟩ => ⟨S2x3x1024x4096, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1x4096, .f32⟩
  | .hbm, ⟨20, _⟩ => ⟨S16384x4096, .f32⟩
  | .hbm, ⟨21, _⟩ => ⟨S1x1x1024x4096, .f32⟩
  | .hbm, ⟨22, _⟩ => ⟨S1024x4096, .f32⟩
  | .hbm, ⟨23, _⟩ => ⟨S16384x4096, .f32⟩
  | .hbm, ⟨24, _⟩ => ⟨S16384x4096, .f32⟩
  | .hbm, ⟨25, _⟩ => ⟨S16384x1x4096, .f32⟩
  | .hbm, ⟨26, _⟩ => ⟨S16384x4096, .f32⟩
  | .hbm, ⟨27, _⟩ => ⟨S1x1x1024x4096, .f32⟩
  | .hbm, ⟨28, _⟩ => ⟨S1024x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1x4096, .f32⟩
  | .hbm, ⟨33, _⟩ => ⟨S16384x4096, .f32⟩
  | .hbm, ⟨34, _⟩ => ⟨S1x1x1024x4096, .f32⟩
  | .hbm, ⟨35, _⟩ => ⟨S1024x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== OutProj.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Glu.lean ====
abbrev S16384x4096 : Shape := ⟨2, ![16384, 4096]⟩
abbrev S2x4096x22016 : Shape := ⟨3, ![2, 4096, 22016]⟩
abbrev S16384x11008 : Shape := ⟨2, ![16384, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S16384x4096 : Shape := ⟨2, ![16384, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S16384x4096, .f32⟩
  | .hbm, ⟨3, _⟩ => ⟨S1x4096x22016, .f32⟩
  | .hbm, ⟨4, _⟩ => ⟨S4096x22016, .f32⟩
  | .hbm, ⟨5, _⟩ => ⟨S16384x22016, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Down.lean ====
abbrev S16384x11008 : Shape := ⟨2, ![16384, 11008]⟩
abbrev S2x11008x4096 : Shape := ⟨3, ![2, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .bf16⟩
  | .hbm, ⟨2, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S16384x11008 : Shape := ⟨2, ![16384, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .bf16⟩
  | .hbm, ⟨2, _⟩ => ⟨S16384x11008, .f32⟩
  | .hbm, ⟨3, _⟩ => ⟨S1x11008x4096, .bf16⟩
  | .hbm, ⟨4, _⟩ => ⟨S11008x4096, .bf16⟩
  | .hbm, ⟨5, _⟩ => ⟨S11008x4096, .f32⟩
  | .hbm, ⟨6, _⟩ => ⟨S16384x4096, .f32⟩
  | .hbm, ⟨7, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== LnRes.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnResRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== WIn.lean ====
abbrev S2x4096x21776 : Shape := ⟨3, ![2, 4096, 21776]⟩
abbrev S2x21776x4096 : Shape := ⟨3, ![2, 21776, 4096]⟩
abbrev S2x22016x4096 : Shape := ⟨3, ![2, 22016, 4096]⟩
abbrev S1x21776x128 : Shape := ⟨3, ![1, 21776, 128]⟩
abbrev S1x22016x128 : Shape := ⟨3, ![1, 22016, 128]⟩
abbrev S1x12288x128 : Shape := ⟨3, ![1, 12288, 128]⟩
abbrev S12288x128 : Shape := ⟨2, ![12288, 128]⟩
abbrev S1x3072x128 : Shape := ⟨3, ![1, 3072, 128]⟩
abbrev S3072x128 : Shape := ⟨2, ![3072, 128]⟩
abbrev S1x4096x128 : Shape := ⟨3, ![1, 4096, 128]⟩
abbrev S4096x128 : Shape := ⟨2, ![4096, 128]⟩
abbrev S1x1024x128 : Shape := ⟨3, ![1, 1024, 128]⟩
abbrev S1024x128 : Shape := ⟨2, ![1024, 128]⟩
abbrev S1x1280x128 : Shape := ⟨3, ![1, 1280, 128]⟩
abbrev S1280x128 : Shape := ⟨2, ![1280, 128]⟩
abbrev S1x16x128 : Shape := ⟨3, ![1, 16, 128]⟩
abbrev S16x128 : Shape := ⟨2, ![16, 128]⟩
abbrev S240x128 : Shape := ⟨2, ![240, 128]⟩
abbrev S1x240x128 : Shape := ⟨3, ![1, 240, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x21776, .f32⟩
  | .hbm, ⟨1, _⟩ => ⟨S2x21776x4096, .f32⟩
  | .hbm, ⟨2, _⟩ => ⟨S2x22016x4096, .bf16⟩
  | .local _ .vmem, ⟨0, _⟩ => ⟨S1x21776x128, .f32⟩
  | .local _ .vmem, ⟨1, _⟩ => ⟨S1x21776x128, .f32⟩
  | .local _ .vmem, ⟨2, _⟩ => ⟨S1x22016x128, .bf16⟩
  | .local _ .vmem, ⟨3, _⟩ => ⟨S1x22016x128, .bf16⟩
  | _, _ => ⟨S2x4096x21776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x21776x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x22016x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== WInRefIdeal.lean ====
abbrev S2x4096x21776 : Shape := ⟨3, ![2, 4096, 21776]⟩
abbrev S2x4096x1024 : Shape := ⟨3, ![2, 4096, 1024]⟩
abbrev S2x4096x3072 : Shape := ⟨3, ![2, 4096, 3072]⟩
abbrev S2x4096x8 : Shape := ⟨3, ![2, 4096, 8]⟩
abbrev S2x4096x128 : Shape := ⟨3, ![2, 4096, 128]⟩
abbrev S2x4096x12288 : Shape := ⟨3, ![2, 4096, 12288]⟩
abbrev S_ : Shape := ⟨0, ![]⟩
abbrev S2x4096x240 : Shape := ⟨3, ![2, 4096, 240]⟩
abbrev S2x4096x22016 : Shape := ⟨3, ![2, 4096, 22016]⟩
abbrev S2x22016x4096 : Shape := ⟨3, ![2, 22016, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x21776, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x3072, .f32⟩
  | .hbm, ⟨6, _⟩ => ⟨S2x4096x1024, .f32⟩
  | .hbm, ⟨7, _⟩ => ⟨S2x4096x8, .f32⟩
  | .hbm, ⟨8, _⟩ => ⟨S2x4096x8, .f32⟩
  | .hbm, ⟨9, _⟩ => ⟨S2x4096x1024, .f32⟩
  | .hbm, ⟨10, _⟩ => ⟨S2x4096x128, .f32⟩
  | .hbm, ⟨11, _⟩ => ⟨S2x4096x128, .f32⟩
  | .hbm, ⟨12, _⟩ => ⟨S2x4096x12288, .f32⟩
  | .hbm, ⟨13, _⟩ => ⟨S_, .f32⟩
  | .hbm, ⟨14, _⟩ => ⟨S2x4096x240, .f32⟩
  | .hbm, ⟨15, _⟩ => ⟨S2x4096x22016, .f32⟩
  | .hbm, ⟨16, _⟩ => ⟨S2x22016x4096, .f32⟩
  | .hbm, ⟨17, _⟩ => ⟨S2x22016x4096, .bf16⟩
  | _, _ => ⟨S2x4096x21776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== LnIn.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.OutProjValue.lean ====
/-
  The output projection: what the kernel's result array ends holding is the reference's product.
-/
module

public import proofs.«01_k».proof.Defs
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Product

open Cert.OutProjIdeal Cert.OutProjIdeal.Gen Cert.OutProjRefIdeal.Read

variable (m : (ℓ : Loc nD τ sig) → Buf (Elt Ideal) ℓ) (ρ : Dev nD → PrngReg)

/-- The reference's product. -/
abbrev ref (X : FVec Ideal S16384x4096 .bf16) (W : FVec Ideal S2x4096x4096 .bf16) : FVec Ideal S16384x4096 .bf16 :=
  val_main_v5 (F := Ideal) X W

/-- The windows' block indices at a grid point. -/
theorem idx : ∀ t : Fin cfg0.N, win0_0.index t = ![t.val / 4, 0] ∧ win0_1.index t = ![1, 0, t.val % 4]
    ∧ win0_2.index t = ![t.val / 4, t.val % 4] :=
  (by decide +kernel : ∀ t : Fin grid0.N, _)

/-- What the body stores at an index of its block is the reference's product at the array's index. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v5, val_main_v4, val_main_v3, val_main_v2, val_main_v1, val_main_v0]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.OutProjIdeal.Product

end
-- ==== Proof.DownValue.lean ====
/-
  The down projection: what the kernel's result array ends holding is the reference's product.
-/
module

public import proofs.«01_k».proof.Defs
public import proofs.«01_k».proof.Proof.OutProjValue
public import proofs.«01_k».proof.Proof.Gen.DownIdeal.Value
public import proofs.«01_k».proof.Proof.Gen.DownRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Product

open Cert.DownIdeal Cert.DownIdeal.Gen Cert.DownRefIdeal.Read

variable (m : (ℓ : Loc nD τ sig) → Buf (Elt Ideal) ℓ)

/-- The reference's result, of the arguments. -/
abbrev ref (X : FVec Ideal S16384x11008 .bf16) (W : FVec Ideal S2x11008x4096 .bf16) : FVec Ideal S16384x4096 .bf16 :=
  val_main_v5 (F := Ideal) X W

/-- The windows' block indices at a grid point. -/
theorem idx : ∀ t : Fin cfg0.N, win0_0.index t = ![t.val / 8, 0] ∧ win0_1.index t = ![1, 0, t.val % 8] ∧ win0_2.index t = ![t.val / 8, t.val % 8] :=
  (by decide +kernel : ∀ t : Fin grid0.N, _)

/-- What the body stores at an index of its block is the reference's result at the array's index. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v5, val_main_v4, val_main_v3, val_main_v2, val_main_v1, val_main_v0]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DownIdeal.Product

end
-- ==== Proof.InProjValue.lean ====
/-
  The input projection: what the kernel's result array ends holding is the reference's product.
-/
module

public import proofs.«01_k».proof.Defs
public import proofs.«01_k».proof.Proof.DownValue
public import proofs.«01_k».proof.Proof.Gen.InProjIdeal.Value
public import proofs.«01_k».proof.Proof.Gen.InProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Product

open Cert.InProjIdeal Cert.InProjIdeal.Gen Cert.InProjRefIdeal.Read

variable (m : (ℓ : Loc nD τ sig) → Buf (Elt Ideal) ℓ)

/-- The reference's result, of the arguments. -/
abbrev ref (X : FVec Ideal S16384x4096 .bf16) (W : FVec Ideal S2x22016x4096 .bf16) : FVec Ideal S16384x9728 .f32 :=
  val_main_v5 (F := Ideal) X W

/-- The windows' block indices at a grid point. -/
theorem idx : ∀ t : Fin cfg0.N, win0_0.index t = ![t.val / 19, 0] ∧ win0_1.index t = ![1, 24 + t.val % 19, 0] ∧ win0_2.index t = ![t.val / 19, t.val % 19] :=
  (by decide +kernel : ∀ t : Fin grid0.N, _)

/-- What the body stores at an index of its block is the reference's result at the array's index. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v5, val_main_v4, val_main_v3, val_main_v2, val_main_v1, val_main_v0]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.InProjIdeal.Product

end
-- ==== Proof.InGatesValue.lean ====
/-
  The gates' projection: what the kernel's result array ends holding is the reference's product.
-/
module

public import proofs.«01_k».proof.Defs
public import proofs.«01_k».proof.Proof.InProjValue
public import proofs.«01_k».proof.Proof.Gen.InGatesIdeal.Value
public import proofs.«01_k».proof.Proof.Gen.InGatesRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InGatesIdeal.Product

open Cert.InGatesIdeal Cert.InGatesIdeal.Gen Cert.InGatesRefIdeal.Read

variable (m : (ℓ : Loc nD τ sig) → Buf (Elt Ideal) ℓ)

/-- The reference's result, of the arguments. -/
abbrev ref (X : FVec Ideal S16384x4096 .bf16) (W : FVec Ideal S2x22016x4096 .bf16) : FVec Ideal S16384x12288 .bf16 :=
  val_main_v6 (F := Ideal) X W

/-- The windows' block indices at a grid point. -/
theorem idx : ∀ t : Fin cfg0.N, win0_0.index t = ![t.val / 12, 0] ∧ win0_1.index t = ![1, t.val % 12, 0] ∧ win0_2.index t = ![t.val / 12, t.val % 12] :=
  (by decide +kernel : ∀ t : Fin grid0.N, _)

/-- The rows of the weight that the point `t` reads. -/
def rows (c : Dev nD) (t : Fin cfg0.N) : Vec Ideal S1x1024x4096 .bf16 := fun j =>
  m ((c : Thread nD τ).loc main_arg1)
    (ix3 1 ⟨t.val % 12 * 1024 + (j 1).val, by have := (j 1).isLt; change _ < 1024 at this; omega⟩ (j 2))

/-- The weight's staging buffer at an index: no transfer of it is cut, so it holds the array's rows. -/
theorem weight (c : Dev nD) (t : Fin cfg0.N) (j : S1x1024x4096.Idx) : X0_1 m c t j = rows m c t j := by
  unfold X0_1 Pipeline.Window.fill
  rw [dif_pos (moved0_1 t _)]
  blk_point [iblk, V, rows, idx t]

/-- What the body stores at an index of its block is the reference's result at the array's index. -/
theorem point (c : Dev nD) (t : Fin cfg0.N) (y) : k0_pay1 (iblk m c 0 t) (X0_1 m c t) y
    = ref (m ((c : Thread nD τ).loc main_arg0)) (m ((c : Thread nD τ).loc main_arg1)) (((cfg0.win 2).blk t).view.emb y) := by
  rw [show X0_1 m c t = rows m c t from funext fun j => weight m c t j]
  pointwise [k0_pay1, ref, rows, val_main_v6, val_main_v5, val_main_v4, val_main_v3, val_main_v2, val_main_v1, val_main_v0]
  blk_point [iblk, V, idx t]

/-- The result array after the run. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.InGatesIdeal.Product

end
-- ==== Proof.GluValue.lean ====
/-
  The gated linear unit: what the kernel's result array ends holding is the reference's.
-/
module

public import proofs.«01_k».proof.Defs
public import proofs.«01_k».proof.Proof.InGatesValue
public import proofs.«01_k».proof.Proof.Gen.GluIdeal.Value
public import proofs.«01_k».proof.Proof.Gen.GluRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GluIdeal.Product

open Cert.GluIdeal Cert.GluIdeal.Gen Cert.GluRefIdeal.Read

variable (m : (ℓ : Loc nD τ sig) → Buf (Elt Ideal) ℓ)

/-- The reference's result, of the arguments. -/
abbrev ref (X : FVec Ideal S16384x4096 .bf16) (W : FVec Ideal S2x4096x22016 .f32) : FVec Ideal S16384x11008 .bf16 :=
  val_main_v8 (F := Ideal) X W

/-- The windows' block indices at a grid point. -/
theorem idx : ∀ t : Fin cfg0.N, win0_0.index t = ![t.val / 43, 0] ∧ win0_1.index t = ![1, 0, t.val % 43] ∧ win0_2.index t = ![1, 0, 43 + t.val % 43] ∧ win0_3.index t = ![t.val / 43, t.val % 43] :=
  (by decide +kernel : ∀ t : Fin grid0.N, _)

/-- What the body stores at an index of its block is the reference's result at the array's index. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (((cfg0.win 3).blk t).view.emb y) := by
  pointwise [k0_pay1, ref, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  simp only [zero_sub]
  blk_point [iblk, V, idx t]

/-- The result array after the run. -/
theorem final (c : Dev nD) : (dats m 0 c).arrAt 3 cfg0.N
    = ref (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c t y

end Cert.GluIdeal.Product

end
-- ==== Proof.MergeValue.lean ====
/-
  The merge of the branches: what the kernel's result array ends holding is the reference's.
-/
module

public import proofs.«01_k».proof.Defs
public import proofs.«01_k».proof.Proof.GluValue
public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Product

open Cert.MergeIdeal Cert.MergeIdeal.Gen Cert.MergeRefIdeal.Read

variable (m : (ℓ : Loc nD τ sig) → Buf (Elt Ideal) ℓ)

/-- The reference's result, of the arguments. -/
abbrev ref (X : FVec Ideal S16384x1024 .bf16) (W : FVec Ideal S16384x1024 .bf16) (Y : FVec Ideal S16384x1024 .bf16) (Z : FVec Ideal S2x3x1024x4096 .bf16) (U : FVec Ideal S16384x12288 .bf16) : FVec Ideal S16384x4096 .bf16 :=
  val_main_v32 (F := Ideal) X W Y Z U

/-- The windows' block indices at a grid point. -/
theorem idx : ∀ t : Fin cfg0.N, win0_0.index t = ![t.val / 8, 0] ∧ win0_1.index t = ![t.val / 8, 0] ∧ win0_2.index t = ![t.val / 8, 0] ∧ win0_3.index t = ![1, 0, 0, t.val % 8] ∧ win0_4.index t = ![t.val / 8, t.val % 8] ∧ win0_5.index t = ![t.val / 8, 8 + t.val % 8] ∧ win0_6.index t = ![t.val / 8, 16 + t.val % 8] ∧ win0_7.index t = ![t.val / 8, t.val % 8] :=
  (by decide +kernel : ∀ t : Fin grid0.N, _)

/-- What the body stores at an index of its block is the reference's result at the array's index. -/
theorem point (c : Dev nD) (t : Fin cfg0.N) (y) : k0_pay1 (k0_pay2 (iblk m c 4 t) (iblk m c 0 t) (View.ld (iblk m c 3 t) r0_2) (iblk m c 5 t)
      (iblk m c 1 t) (View.ld (iblk m c 3 t) r0_3)) (k0_pay3 (iblk m c 6 t)) (Scalar.ofBits .f32 0x00000000#32)
      (iblk m c 2 t) (View.ld (iblk m c 3 t) r0_4) y
    = ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, k0_pay2, k0_pay3, ref, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_v4, val_main_v3, val_main_cst, val_main_v2, val_main_v1, val_main_v0]
  simp only [zero_sub]
  blk_point [iblk, V, idx t]

/-- The result array after the run. -/
theorem final (c : Dev nD) : (dats m 0 c).arrAt 7 cfg0.N
    = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact point m c t y

end Cert.MergeIdeal.Product

end
-- ==== Proof.LnResValue.lean ====
/-
  The residual layer norm: what the kernel's two result arrays end holding are the reference's two results.
-/
module

public import proofs.«01_k».proof.Defs
public import proofs.«01_k».proof.Proof.MergeValue
public import proofs.«01_k».proof.Proof.Gen.LnResIdeal.Value
public import proofs.«01_k».proof.Proof.Gen.LnResRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LnResIdeal.Product

open Cert.LnResIdeal Cert.LnResIdeal.Gen Cert.LnResRefIdeal.Read

variable (m : (ℓ : Loc nD τ sig) → Buf (Elt Ideal) ℓ)

/-- The reference's first result, of the arguments. -/
abbrev ref (X : FVec Ideal S16384x4096 .f32) (Y : FVec Ideal S16384x4096 .bf16) (G B : FVec Ideal S4096 .f32) :
    FVec Ideal S16384x4096 .f32 :=
  val_main_v27 (F := Ideal) X Y G B

/-- The reference's second result, of the arguments. -/
abbrev ref2 (X : FVec Ideal S16384x4096 .f32) (Y : FVec Ideal S16384x4096 .bf16) (G B : FVec Ideal S4096 .f32) :
    FVec Ideal S16384x4096 .bf16 :=
  val_main_v28 (F := Ideal) X Y G B

/-- The windows' block indices at a grid point. -/
theorem idx : ∀ t : Fin cfg0.N, win0_0.index t = ![t.val, 0] ∧ win0_1.index t = ![t.val, 0]
    ∧ win0_2.index t = ![0, 0] ∧ win0_3.index t = ![0, 0]
    ∧ win0_4.index t = ![t.val, 0] ∧ win0_5.index t = ![t.val, 0] :=
  (by decide +kernel : ∀ t : Fin grid0.N, _)

/-- A vector of 4096 entries as one row. -/
def row (G : FVec Ideal S4096 .f32) : Vec Ideal S1x4096 .f32 := fun j => G (ix1 (j 1))

/-- A vector reshaped to one row. -/
theorem reshape_row (G : FVec Ideal S4096 .f32) (j : S1x4096.Idx) :
    shapeCast S1x4096 G shapeCasts_S4096_S1x4096 j = row G j := by
  pointwise [row]

/-- The scale's array when the grid begins: the argument as one row. -/
theorem gain (c : Dev nD) (j : S1x4096.Idx) : V m c main_v0 j = row (m ((c : Thread nD τ).loc main_arg2)) j := by
  have h : V m c main_v0
      = shapeCast S1x4096 (m ((c : Thread nD τ).loc main_arg2)) shapeCasts_S4096_S1x4096 := by
    entry_read
    rfl
  exact (congrFun h j).trans (reshape_row _ j)

/-- The shift's array when the grid begins: the argument as one row. -/
theorem shift (c : Dev nD) (j : S1x4096.Idx) : V m c main_v1 j = row (m ((c : Thread nD τ).loc main_arg3)) j := by
  have h : V m c main_v1
      = shapeCast S1x4096 (m ((c : Thread nD τ).loc main_arg3)) shapeCasts_S4096_S1x4096 := by
    entry_read
    rfl
  exact (congrFun h j).trans (reshape_row _ j)

/-- The scale's block. -/
theorem gain_block (c : Dev nD) (t : Fin cfg0.N) (j : S1x4096.Idx) :
    iblk m c 2 t j = row (m ((c : Thread nD τ).loc main_arg2)) j := by
  refine Eq.trans ?_ (gain m c j)
  blk_point [iblk, idx t]

/-- The shift's block. -/
theorem shift_block (c : Dev nD) (t : Fin cfg0.N) (j : S1x4096.Idx) :
    iblk m c 3 t j = row (m ((c : Thread nD τ).loc main_arg3)) j := by
  refine Eq.trans ?_ (shift m c j)
  blk_point [iblk, idx t]

/-- What the body stores at an index of its first block is the reference's result at the array's index. -/
theorem point (c : Dev nD) (t : Fin cfg0.N) (y) : k0_pay1 (iblk m c 0 t) (iblk m c 1 t) (iblk m c 2 t) (iblk m c 3 t) y
    = ref (m ((c : Thread nD τ).loc main_arg0)) (m ((c : Thread nD τ).loc main_arg1)) (m ((c : Thread nD τ).loc main_arg2)) (m ((c : Thread nD τ).loc main_arg3))
      (((cfg0.win 4).blk t).view.emb y) := by
  rw [show iblk m c 2 t = row (m ((c : Thread nD τ).loc main_arg2)) from funext fun j => gain_block m c t j,
    show iblk m c 3 t = row (m ((c : Thread nD τ).loc main_arg3)) from funext fun j => shift_block m c t j]
  pointwise [row, k0_pay1, ref, val_main_v27, val_main_v26, val_main_v25, val_main_v24, val_main_v23, val_main_v22, val_main_v21, val_main_v20, val_main_v19, val_main_v18, val_main_v17, val_main_cst_4, val_main_v16, val_main_v15, val_main_v14, val_main_v13, val_main_cst_3, val_main_v12, val_main_v11, val_main_cst_2, val_main_v10, val_main_v9, val_main_v8, val_main_v7, val_main_v6, val_main_cst_1, val_main_v5, val_main_v4, val_main_cst_0, val_main_v3, val_main_v2, val_main_v1, val_main_v0, val_main_cst]
  blk_point [iblk, V, idx t]

/-- What the body stores at an index of its second block is the reference's result at the array's index. -/
theorem point2 (c : Dev nD) (t : Fin cfg0.N) (y) : k0_pay2 (iblk m c 0 t) (iblk m c 1 t) (iblk m c 2 t) (iblk m c 3 t) y
    = ref2 (m ((c : Thread nD τ).loc main_arg0)) (m ((c : Thread nD τ).loc main_arg1)) (m ((c : Thread nD τ).loc main_arg2)) (m ((c : Thread nD τ).loc main_arg3))
      (((cfg0.win 5).blk t).view.emb y) := by
  rw [show iblk m c 2 t = row (m ((c : Thread nD τ).loc main_arg2)) from funext fun j => gain_block m c t j,
    show iblk m c 3 t = row (m ((c : Thread nD τ).loc main_arg3)) from funext fun j => shift_block m c t j]
  pointwise [row, k0_pay1, k0_pay2, ref2, val_main_v28, val_main_v27, val_main_v26, val_main_v25, val_main_v24, val_main_v23, val_main_v22, val_main_v21, val_main_v20, val_main_v19, val_main_v18, val_main_v17, val_main_cst_4, val_main_v16, val_main_v15, val_main_v14, val_main_v13, val_main_cst_3, val_main_v12, val_main_v11, val_main_cst_2, val_main_v10, val_main_v9, val_main_v8, val_main_v7, val_main_v6, val_main_cst_1, val_main_v5, val_main_v4, val_main_cst_0, val_main_v3, val_main_v2, val_main_v1, val_main_v0, val_main_cst]
  blk_point [iblk, V, idx t]

/-- The first result array after the run. -/
theorem final (c : Dev nD) : (dats m 0 c).arrAt 4 cfg0.N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

/-- The second result array after the run. -/
theorem final2 (c : Dev nD) : (dats m 0 c).arrAt 5 cfg0.N
    = ref2 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point2 m c t y

end Cert.LnResIdeal.Product

end
-- ==== Proof.Pairs.lean ====
/-
  Seven calls besides the attention: each kernel, read at the ideal instance, and its reference run
  from the same arguments and end with equal results, the arguments unchanged.
-/
module

public import proofs.«01_k».proof.Defs
public import proofs.«01_k».proof.Proof.LnResValue
public import proofs.«01_k».proof.Proof.Gen.InGatesRefIdeal.Run
public import proofs.«01_k».proof.Proof.Gen.InProjRefIdeal.Run
public import proofs.«01_k».proof.Proof.Gen.MergeRefIdeal.Run
public import proofs.«01_k».proof.Proof.Gen.OutProjRefIdeal.Run
public import proofs.«01_k».proof.Proof.Gen.GluRefIdeal.Run
public import proofs.«01_k».proof.Proof.Gen.DownRefIdeal.Run
public import proofs.«01_k».proof.Proof.Gen.LnResRefIdeal.Run

@[expose] public section

set_option maxRecDepth 16384

noncomputable section

open Idealize.ShloMosaic Idealize.SL.Sem

namespace Cert.Pairs

/-- The pair of `InGates`. -/
theorem pairInGates : Cert.algebraic_InGatesIdeal_InGatesRefIdeal := by
  intro m g m' g' _ hagree
  refine ⟨fun c => Cert.InGatesIdeal.Product.ref (m ((c.tc : Thread Cert.InGatesIdeal.nD Cert.InGatesIdeal.τ).loc Cert.InGatesIdeal.main_arg0)) (m ((c.tc : Thread Cert.InGatesIdeal.nD Cert.InGatesIdeal.τ).loc Cert.InGatesIdeal.main_arg1)), ?_, ?_⟩
  · exact (θ_run _ _ _).mono (fun r h c => ⟨(h c).1.trans (Cert.InGatesIdeal.Product.final m c), (h c).2⟩)
      (Cert.InGatesIdeal.Value.run_blocks m g)
  · refine (θ_run _ _ _).mono (fun r h c => ⟨(h c).1.trans ?_, (h c).2⟩) (Cert.InGatesRefIdeal.Value.run m' g')
    obtain ⟨h0, h1⟩ := hagree c
    rw [h0, h1]
    exact Cert.InGatesRefIdeal.Read.val_main_v6_eq (F := Ideal) _ _

/-- The pair of `InProj`. -/
theorem pairInProj : Cert.algebraic_InProjIdeal_InProjRefIdeal := by
  intro m g m' g' _ hagree
  refine ⟨fun c => Cert.InProjIdeal.Product.ref (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · exact (θ_run _ _ _).mono (fun r h c => ⟨(h c).1.trans (Cert.InProjIdeal.Product.final m c), (h c).2⟩)
      (Cert.InProjIdeal.Value.run_blocks m g)
  · refine (θ_run _ _ _).mono (fun r h c => ⟨(h c).1.trans ?_, (h c).2⟩) (Cert.InProjRefIdeal.Value.run m' g')
    obtain ⟨h0, h1⟩ := hagree c
    rw [h0, h1]
    exact Cert.InProjRefIdeal.Read.val_main_v5_eq (F := Ideal) _ _

/-- The pair of `Merge`. -/
theorem pairMerge : Cert.algebraic_MergeIdeal_MergeRefIdeal := by
  intro m g m' g' _ hagree
  refine ⟨fun c => Cert.MergeIdeal.Product.ref (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), ?_, ?_⟩
  · exact (θ_run _ _ _).mono (fun r h c => ⟨(h c).1.trans (Cert.MergeIdeal.Product.final m c), (h c).2⟩)
      (Cert.MergeIdeal.Value.run_blocks m g)
  · refine (θ_run _ _ _).mono (fun r h c => ⟨(h c).1.trans ?_, (h c).2⟩) (Cert.MergeRefIdeal.Value.run m' g')
    obtain ⟨h0, h1, h2, h3, h4⟩ := hagree c
    rw [h0, h1, h2, h3, h4]
    exact Cert.MergeRefIdeal.Read.val_main_v32_eq (F := Ideal) _ _ _ _ _

/-- The pair of `OutProj`. -/
theorem pairOutProj : Cert.algebraic_OutProjIdeal_OutProjRefIdeal := by
  intro m g m' g' _ hagree
  refine ⟨fun c => Cert.OutProjIdeal.Product.ref (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), ?_, ?_⟩
  · exact (θ_run _ _ _).mono (fun r h c => ⟨(h c).1.trans (Cert.OutProjIdeal.Product.final m c), (h c).2⟩)
      (Cert.OutProjIdeal.Value.run_blocks m g)
  · refine (θ_run _ _ _).mono (fun r h c => ⟨(h c).1.trans ?_, (h c).2⟩) (Cert.OutProjRefIdeal.Value.run m' g')
    obtain ⟨h0, h1⟩ := hagree c
    rw [h0, h1]
    exact Cert.OutProjRefIdeal.Read.val_main_v5_eq (F := Ideal) _ _

/-- The pair of `Glu`. -/
theorem pairGlu : Cert.algebraic_GluIdeal_GluRefIdeal := by
  intro m g m' g' _ hagree
  refine ⟨fun c => Cert.GluIdeal.Product.ref (m ((c.tc : Thread Cert.GluIdeal.nD Cert.GluIdeal.τ).loc Cert.GluIdeal.main_arg0)) (m ((c.tc : Thread Cert.GluIdeal.nD Cert.GluIdeal.τ).loc Cert.GluIdeal.main_arg1)), ?_, ?_⟩
  · exact (θ_run _ _ _).mono (fun r h c => ⟨(h c).1.trans (Cert.GluIdeal.Product.final m c), (h c).2⟩)
      (Cert.GluIdeal.Value.run_blocks m g)
  · refine (θ_run _ _ _).mono (fun r h c => ⟨(h c).1.trans ?_, (h c).2⟩) (Cert.GluRefIdeal.Value.run m' g')
    obtain ⟨h0, h1⟩ := hagree c
    rw [h0, h1]
    exact Cert.GluRefIdeal.Read.val_main_v8_eq (F := Ideal) _ _

/-- The pair of `Down`. -/
theorem pairDown : Cert.algebraic_DownIdeal_DownRefIdeal := by
  intro m g m' g' _ hagree
  refine ⟨fun c => Cert.DownIdeal.Product.ref (m ((c.tc : Thread Cert.DownIdeal.nD Cert.DownIdeal.τ).loc Cert.DownIdeal.main_arg0)) (m ((c.tc : Thread Cert.DownIdeal.nD Cert.DownIdeal.τ).loc Cert.DownIdeal.main_arg1)), ?_, ?_⟩
  · exact (θ_run _ _ _).mono (fun r h c => ⟨(h c).1.trans (Cert.DownIdeal.Product.final m c), (h c).2⟩)
      (Cert.DownIdeal.Value.run_blocks m g)
  · refine (θ_run _ _ _).mono (fun r h c => ⟨(h c).1.trans ?_, (h c).2⟩) (Cert.DownRefIdeal.Value.run m' g')
    obtain ⟨h0, h1⟩ := hagree c
    rw [h0, h1]
    exact Cert.DownRefIdeal.Read.val_main_v5_eq (F := Ideal) _ _

/-- The pair of `LnRes`, of two results. -/
theorem pairLnRes : Cert.algebraic_LnResIdeal_LnResRefIdeal := by
  intro m g m' g' _ hagree
  refine ⟨fun c => Cert.LnResIdeal.Product.ref (m ((c.tc : Thread Cert.LnResIdeal.nD Cert.LnResIdeal.τ).loc Cert.LnResIdeal.main_arg0)) (m ((c.tc : Thread Cert.LnResIdeal.nD Cert.LnResIdeal.τ).loc Cert.LnResIdeal.main_arg1)) (m ((c.tc : Thread Cert.LnResIdeal.nD Cert.LnResIdeal.τ).loc Cert.LnResIdeal.main_arg2)) (m ((c.tc : Thread Cert.LnResIdeal.nD Cert.LnResIdeal.τ).loc Cert.LnResIdeal.main_arg3)),
    fun c => Cert.LnResIdeal.Product.ref2 (m ((c.tc : Thread Cert.LnResIdeal.nD Cert.LnResIdeal.τ).loc Cert.LnResIdeal.main_arg0)) (m ((c.tc : Thread Cert.LnResIdeal.nD Cert.LnResIdeal.τ).loc Cert.LnResIdeal.main_arg1)) (m ((c.tc : Thread Cert.LnResIdeal.nD Cert.LnResIdeal.τ).loc Cert.LnResIdeal.main_arg2)) (m ((c.tc : Thread Cert.LnResIdeal.nD Cert.LnResIdeal.τ).loc Cert.LnResIdeal.main_arg3)), ?_, ?_⟩
  · exact (θ_run _ _ _).mono (fun r h c => ⟨(h c).1.trans (Cert.LnResIdeal.Product.final m c),
      (h c).2.1.trans (Cert.LnResIdeal.Product.final2 m c), (h c).2.2⟩) (Cert.LnResIdeal.Value.run_blocks m g)
  · refine (θ_run _ _ _).mono (fun r h c => ⟨(h c).1.trans ?_, (h c).2.1.trans ?_, (h c).2.2⟩) (Cert.LnResRefIdeal.Value.run m' g')
    · obtain ⟨h0, h1, h2, h3⟩ := hagree c
      rw [h0, h1, h2, h3]
      exact Cert.LnResRefIdeal.Read.val_main_v27_eq (F := Ideal) _ _ _ _
    · obtain ⟨h0, h1, h2, h3⟩ := hagree c
      rw [h0, h1, h2, h3]
      exact Cert.LnResRefIdeal.Read.val_main_v28_eq (F := Ideal) _ _ _ _

end Cert.Pairs

end
-- ==== Proof.SwaBlock.lean ====
/-
  The attention kernel's block: what one grid point leaves in its output block, as a term with one function per head.
-/
module

public import proofs.«01_k».proof.Proof.Pairs
public import proofs.«01_k».proof.Proof.Gen.SwaIdeal.Value

@[expose] public section

noncomputable section

namespace Cert.SwaIdeal.Block

open Cert.SwaIdeal Cert.SwaIdeal.Gen Idealize.ShloMosaic Idealize.ShloMosaic.TcCoe Idealize.SL.Sem
open Idealize.ShloMosaic.Pipeline (Dat)

variable {F : FTy → Type} [FloatOps F] [Named F]

theorem hz : (![0, 0] : Fin 2 → Nat) = fun _ => 0 := funext fun a => by fin_cases a <;> rfl

/-- The queries of one head: its 64 of the 128 lanes of a pair of heads, the other 64 set to zero. -/
def headQ (mask : IVec S128x128 1) (o : Nat) (q : FVec F S128x1024 .bf16) (ho : S128x1024.Slices ![0, o] S128x128) :
    FVec F S128x128 .bf16 :=
  select mask (extractStridedSlice S128x128 ![0, o] q ho) (broadcast S128x128 (Scalar.sitofp .bf16 0#32))

/-- One head's scores, keys by queries: the products less the slope times the distance. -/
def headS (K : FVec F S256x128 .bf16) (q : FVec F S128x128 .bf16) (dist : FVec F S256x128 .f32) (σ : F .f32) :
    FVec F S256x128 .f32 :=
  subf (matmul dot_S256x128_S128x128_S256x128_1_1_0_0_n_n none K q (constant S256x128 .f32 0x00000000#32))
    (mulf (broadcast S256x128 σ) dist)

/-- The largest score of each query, the sink among them. -/
def headM (s : FVec F S256x128 .f32) (sk : FVec F S1x128 .f32) : FVec F S1x128 .f32 :=
  maximumf (shapeCast S1x128 (multiReduction .maximumf [0] S128 s 0xFF800000#32 reduces_S256x128_S128 (.inl rfl) rfl)
    shapeCasts_S128_S1x128) sk

/-- The powers of two of the scores less the largest. -/
def headP (s : FVec F S256x128 .f32) (mx : FVec F S1x128 .f32) : FVec F S256x128 .f32 :=
  exp2 (subf s (broadcastTo S256x128 mx broadcasts_S1x128_S256x128))

/-- One over the sum of the powers, the sink's among them. -/
def headR (p : FVec F S256x128 .f32) (mx sk : FVec F S1x128 .f32) : FVec F S1x128 .f32 :=
  divf (broadcast S1x128 (Scalar.ofBits .f32 0x3F800000#32))
    (addf (shapeCast S1x128 (multiReduction .add [0] S128 p 0x00000000#32 reduces_S256x128_S128 (.inl rfl) rfl)
      shapeCasts_S128_S1x128) (exp2 (subf sk mx)))

/-- The values weighted by the normalised powers, lanes by queries. -/
def headV (V : FVec F S256x128 .bf16) (p : FVec F S256x128 .f32) (r : FVec F S1x128 .f32) : FVec F S128x128 .f32 :=
  matmul dot_S256x128_S256x128_S128x128_0_0_1_1_n_n none V
    (truncf .bf16 (mulf p (broadcastTo S256x128 r broadcasts_S1x128_S256x128)) bitsLt_bf16_f32)
    (constant S128x128 .f32 0x00000000#32)

/-- One head from its scores. -/
def headO (V : FVec F S256x128 .bf16) (s : FVec F S256x128 .f32) (sk : FVec F S1x128 .f32) : FVec F S128x128 .f32 :=
  headV V (headP s (headM s sk)) (headR (headP s (headM s sk)) (headM s sk) sk)

/-- The lanes below 64 of a pair's lanes, and the others. -/
abbrev lo : IVec S128x128 1 := k0_pay5
abbrev hi : IVec S128x128 1 := xori k0_pay5 (constantI S128x128 1 1#1)

/-- One head from its queries, keys, values, slope and sink. -/
def head (mask : IVec S128x128 1) (o : Nat) (ho : S128x1024.Slices ![0, o] S128x128) (K V : FVec F S256x128 .bf16)
    (σ : F .f32) (r : Nat) (hr : S16x128.Slices ![r, 0] S1x128) (q : FVec F S128x1024 .bf16) (dist : FVec F S256x128 .f32)
    (sk : FVec F S16x128 .f32) : FVec F S128x128 .f32 :=
  headO V (headS K (headQ mask o q ho) dist σ) (extractStridedSlice S1x128 ![r, 0] sk hr)

/-- A pair of heads: the even head's lanes below 64, the odd head's above, turned to queries by lanes. -/
def pair (a b : FVec F S128x128 .f32) : FVec F S128x128 .f32 :=
  transpose S128x128 [1, 0] (select k0_pay6 a b) transposes_S128x128_p1_0_S128x128

/-- The slope of head `h`, times the reciprocal of the logarithm of two. -/
def slope (h : ℕ) : F .f32 :=
  match h with
  | 0 => Named.named κ "slope0" 0x3F8293EE#32
  | 1 => Named.named κ "slope1" 0x3F38AA3B#32
  | 2 => Named.named κ "slope2" 0x3F0293EE#32
  | 3 => Named.named κ "slope3" 0x3EB8AA3B#32
  | 4 => Named.named κ "slope4" 0x3E8293EE#32
  | 5 => Named.named κ "eighth_log2e" 0x3E38AA3B#32
  | 6 => Named.named κ "slope6" 0x3E0293EE#32
  | 7 => Named.named κ "slope7" 0x3DB8AA3B#32
  | 8 => Named.named κ "slope8" 0x3D8293EE#32
  | 9 => Named.named κ "slope9" 0x3D38AA3B#32
  | 10 => Named.named κ "slope10" 0x3D0293EE#32
  | 11 => Named.named κ "slope11" 0x3CB8AA3B#32
  | 12 => Named.named κ "slope12" 0x3C8293EE#32
  | 13 => Named.named κ "slope13" 0x3C38AA3B#32
  | 14 => Named.named κ "slope14" 0x3C0293EE#32
  | _ => Named.named κ "slope15" 0x3BB8AA3B#32

variable (i : grid0.Coords) (x0 : Vec F S128x1024 .f32) (x1 x2 x3 x4 : Vec F S128x128 .f32) (x5 : Vec F S16x128 .f32)

/-- Head 0. -/
def head0 : FVec F S128x128 .f32 :=
  head lo 0 slices_S128x1024_o0_0_S128x128 (k0_pay8 x1 x3) (k0_pay9 x2 x4) (slope 0) 0
    slices_S16x128_o0_0_S1x128 (k0_pay7 x0) (k0_pay4 i) (k0_pay12 x5)

/-- Head 1. -/
def head1 : FVec F S128x128 .f32 :=
  head hi 0 slices_S128x1024_o0_0_S128x128 (k0_pay10 (k0_pay8 x1 x3)) (k0_pay11 x2 x4) (slope 1) 1
    slices_S16x128_o1_0_S1x128 (k0_pay7 x0) (k0_pay4 i) (k0_pay12 x5)

/-- Head 2. -/
def head2 : FVec F S128x128 .f32 :=
  head lo 128 slices_S128x1024_o0_128_S128x128 (k0_pay8 x1 x3) (k0_pay9 x2 x4) (slope 2) 2
    slices_S16x128_o2_0_S1x128 (k0_pay7 x0) (k0_pay4 i) (k0_pay12 x5)

/-- Head 3. -/
def head3 : FVec F S128x128 .f32 :=
  head hi 128 slices_S128x1024_o0_128_S128x128 (k0_pay10 (k0_pay8 x1 x3)) (k0_pay11 x2 x4) (slope 3) 3
    slices_S16x128_o3_0_S1x128 (k0_pay7 x0) (k0_pay4 i) (k0_pay12 x5)

/-- Head 4. -/
def head4 : FVec F S128x128 .f32 :=
  head lo 256 slices_S128x1024_o0_256_S128x128 (k0_pay8 x1 x3) (k0_pay9 x2 x4) (slope 4) 4
    slices_S16x128_o4_0_S1x128 (k0_pay7 x0) (k0_pay4 i) (k0_pay12 x5)

/-- Head 5. -/
def head5 : FVec F S128x128 .f32 :=
  head hi 256 slices_S128x1024_o0_256_S128x128 (k0_pay10 (k0_pay8 x1 x3)) (k0_pay11 x2 x4) (slope 5) 5
    slices_S16x128_o5_0_S1x128 (k0_pay7 x0) (k0_pay4 i) (k0_pay12 x5)

/-- Head 6. -/
def head6 : FVec F S128x128 .f32 :=
  head lo 384 slices_S128x1024_o0_384_S128x128 (k0_pay8 x1 x3) (k0_pay9 x2 x4) (slope 6) 6
    slices_S16x128_o6_0_S1x128 (k0_pay7 x0) (k0_pay4 i) (k0_pay12 x5)

/-- Head 7. -/
def head7 : FVec F S128x128 .f32 :=
  head hi 384 slices_S128x1024_o0_384_S128x128 (k0_pay10 (k0_pay8 x1 x3)) (k0_pay11 x2 x4) (slope 7) 7
    slices_S16x128_o7_0_S1x128 (k0_pay7 x0) (k0_pay4 i) (k0_pay12 x5)

/-- Head 8. -/
def head8 : FVec F S128x128 .f32 :=
  head lo 512 slices_S128x1024_o0_512_S128x128 (k0_pay10 (k0_pay8 x1 x3)) (k0_pay11 x2 x4) (slope 8) 8
    slices_S16x128_o8_0_S1x128 (k0_pay7 x0) (k0_pay4 i) (k0_pay12 x5)

/-- Head 9. -/
def head9 : FVec F S128x128 .f32 :=
  head hi 512 slices_S128x1024_o0_512_S128x128 (k0_pay8 x1 x3) (k0_pay9 x2 x4) (slope 9) 9
    slices_S16x128_o9_0_S1x128 (k0_pay7 x0) (k0_pay4 i) (k0_pay12 x5)

/-- Head 10. -/
def head10 : FVec F S128x128 .f32 :=
  head lo 640 slices_S128x1024_o0_640_S128x128 (k0_pay10 (k0_pay8 x1 x3)) (k0_pay11 x2 x4) (slope 10) 10
    slices_S16x128_o10_0_S1x128 (k0_pay7 x0) (k0_pay4 i) (k0_pay12 x5)

/-- Head 11. -/
def head11 : FVec F S128x128 .f32 :=
  head hi 640 slices_S128x1024_o0_640_S128x128 (k0_pay8 x1 x3) (k0_pay9 x2 x4) (slope 11) 11
    slices_S16x128_o11_0_S1x128 (k0_pay7 x0) (k0_pay4 i) (k0_pay12 x5)

/-- Head 12. -/
def head12 : FVec F S128x128 .f32 :=
  head lo 768 slices_S128x1024_o0_768_S128x128 (k0_pay10 (k0_pay8 x1 x3)) (k0_pay11 x2 x4) (slope 12) 12
    slices_S16x128_o12_0_S1x128 (k0_pay7 x0) (k0_pay4 i) (k0_pay12 x5)

/-- Head 13. -/
def head13 : FVec F S128x128 .f32 :=
  head hi 768 slices_S128x1024_o0_768_S128x128 (k0_pay8 x1 x3) (k0_pay9 x2 x4) (slope 13) 13
    slices_S16x128_o13_0_S1x128 (k0_pay7 x0) (k0_pay4 i) (k0_pay12 x5)

/-- Head 14. -/
def head14 : FVec F S128x128 .f32 :=
  head lo 896 slices_S128x1024_o0_896_S128x128 (k0_pay10 (k0_pay8 x1 x3)) (k0_pay11 x2 x4) (slope 14) 14
    slices_S16x128_o14_0_S1x128 (k0_pay7 x0) (k0_pay4 i) (k0_pay12 x5)

/-- Head 15. -/
def head15 : FVec F S128x128 .f32 :=
  head hi 896 slices_S128x1024_o0_896_S128x128 (k0_pay8 x1 x3) (k0_pay9 x2 x4) (slope 15) 15
    slices_S16x128_o15_0_S1x128 (k0_pay7 x0) (k0_pay4 i) (k0_pay12 x5)

/-- The output block: the eight pairs of heads side by side. -/
def block : Vec F S128x1024 .bf16 :=
  truncf .bf16 (concatenate S128x1024 1 [⟨S128x128, pair (head0 i x0 x1 x2 x3 x4 x5) (head1 i x0 x1 x2 x3 x4 x5)⟩,
    ⟨S128x128, pair (head2 i x0 x1 x2 x3 x4 x5) (head3 i x0 x1 x2 x3 x4 x5)⟩,
    ⟨S128x128, pair (head4 i x0 x1 x2 x3 x4 x5) (head5 i x0 x1 x2 x3 x4 x5)⟩,
    ⟨S128x128, pair (head6 i x0 x1 x2 x3 x4 x5) (head7 i x0 x1 x2 x3 x4 x5)⟩,
    ⟨S128x128, pair (head8 i x0 x1 x2 x3 x4 x5) (head9 i x0 x1 x2 x3 x4 x5)⟩,
    ⟨S128x128, pair (head10 i x0 x1 x2 x3 x4 x5) (head11 i x0 x1 x2 x3 x4 x5)⟩,
    ⟨S128x128, pair (head12 i x0 x1 x2 x3 x4 x5) (head13 i x0 x1 x2 x3 x4 x5)⟩,
    ⟨S128x128, pair (head14 i x0 x1 x2 x3 x4 x5) (head15 i x0 x1 x2 x3 x4 x5)⟩] concatenates_S128x128_S128x128_S128x128_S128x128_S128x128_S128x128_S128x128_S128x128_S128x1024_d1) bitsLt_bf16_f32

set_option maxRecDepth 65536 in
set_option maxHeartbeats 4000000 in
/-- What the body leaves in the output's buffer is `block` of the input blocks. -/
theorem out_eq (c : Dev nD) (arg2 : Memref sig .tc .vmem S128x1024 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S16x128 .f32) (harg7 : arg7.IsWhole) (arg8 : Memref sig .tc .vmem S128x1024 .bf16) (harg8 : arg8.IsWhole) :
    out0_A_6 c i arg2 harg2 arg3 harg3 arg4 harg4 arg5 harg5 arg6 harg6 arg7 harg7 arg8 harg8 x0 x1 x2 x3 x4 x5
      = block i x0 x1 x2 x3 x4 x5 := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  rw [View.canon_unit_zero hz]
  sl_unfold_words
  simp only [View.readAt_eq_ld, harg2.read_unread, harg3.read_unread, harg4.read_unread, harg5.read_unread, harg6.read_unread,
    harg7.read_unread, View.ld_unit_zero (S := S128x1024) hz, View.ld_unit_zero (S := S128x128) hz, View.ld_unit_zero (S := S16x128) hz]
  rfl

end Cert.SwaIdeal.Block

end
-- ==== Proof.SwaMath.lean ====
/-
  A softmax with a sink, in powers of two of scores times one over the logarithm of two, is the softmax in exponentials.
-/
module

public import proofs.«01_k».proof.Proof.SwaBlock
public import Idealize.ShloMosaic.Lib.Pipeline.ValueKit
public import Idealize.ShloMosaic.Lib.Pointwise

@[expose] public section

noncomputable section

namespace Cert.SwaMath

open Idealize.ShloMosaic

variable {ι : Type} [Fintype ι]

/-- One over the logarithm of two. -/
def c2 : ℝ := (Real.log 2)⁻¹

theorem c2_pos : 0 < c2 := inv_pos.mpr (Real.log_pos (by norm_num))

/-- A score: a real number where the key is seen, minus infinity where it is not. -/
def score (ok : ι → Prop) [DecidablePred ok] (x : ι → ℝ) (j : ι) : EReal := if ok j then ((x j : ℝ) : EReal) else ⊥

/-- The largest of the scores and the sink. -/
def top (S : ι → EReal) (b : EReal) : EReal := max (Finset.fold max ⊥ S Finset.univ) b

/-- The weighted sum in exponentials, each divided by their sum. -/
def soft (v S : ι → EReal) (b : EReal) : EReal :=
  ∑ j, v j * Ideal.div (Ideal.exp (S j - top S b)) ((∑ j, Ideal.exp (S j - top S b)) + Ideal.exp (b - top S b))

/-- The weighted sum in powers of two, each times one over their sum. -/
def soft2 (v S : ι → EReal) (b : EReal) : EReal :=
  ∑ j, v j * (Ideal.exp2 (S j - top S b) *
    Ideal.div 1 ((∑ j, Ideal.exp2 (S j - top S b)) + Ideal.exp2 (b - top S b)))

theorem coe_max (a b : ℝ) : max (a : EReal) (b : EReal) = ((max a b : ℝ) : EReal) :=
  (EReal.coe_strictMono.monotone.map_max).symm

/-- The largest is a real number, and scaling the scores by a positive number scales it. -/
theorem top_real (ok : ι → Prop) [DecidablePred ok] (x : ι → ℝ) (b : ℝ) :
    ∃ m : ℝ, top (score ok x) (b : EReal) = (m : EReal) ∧
      top (score ok fun j => x j * c2) ((b * c2 : ℝ) : EReal) = ((m * c2 : ℝ) : EReal) := by
  classical
  unfold top
  induction (Finset.univ : Finset ι) using Finset.induction_on with
  | empty => exact ⟨b, by simp, by simp⟩
  | insert a s ha ih =>
    obtain ⟨m, h1, h2⟩ := ih
    rw [Finset.fold_insert ha, Finset.fold_insert ha, max_assoc, max_assoc, h1, h2]
    by_cases h : ok a
    · refine ⟨max (x a) m, ?_, ?_⟩
      · rw [score, if_pos h, coe_max]
      · rw [score, if_pos h, coe_max, max_mul_of_nonneg _ _ c2_pos.le]
    · refine ⟨m, ?_, ?_⟩ <;> rw [score, if_neg h, max_eq_right bot_le]

theorem exp2_real (y m : ℝ) : Ideal.exp2 (((y * c2 : ℝ) : EReal) - ((m * c2 : ℝ) : EReal)) = ((Real.exp (y - m) : ℝ) : EReal) := by
  rw [← EReal.coe_sub]
  show ((Real.rpow 2 _ : ℝ) : EReal) = _
  have : Real.rpow 2 (y * c2 - m * c2) = Real.exp (y - m) := by
    show (2 : ℝ) ^ (y * c2 - m * c2) = _
    rw [Real.rpow_def_of_pos (by norm_num), ← sub_mul, c2]
    congr 1
    have : Real.log 2 ≠ 0 := (Real.log_pos (by norm_num)).ne'
    field_simp
  rw [this]

theorem exp_real (y m : ℝ) : Ideal.exp ((y : EReal) - (m : EReal)) = ((Real.exp (y - m) : ℝ) : EReal) := by
  rw [← EReal.coe_sub]; rfl

/-- The two weighted sums are equal when the weights agree where the key is seen. -/
theorem soft2_eq (ok : ι → Prop) [DecidablePred ok] (x : ι → ℝ) (b : ℝ) (v v' : ι → EReal)
    (hv : ∀ j, ok j → v' j = v j) :
    soft2 v' (score ok fun j => x j * c2) ((b * c2 : ℝ) : EReal) = soft v (score ok x) (b : EReal) := by
  obtain ⟨m, h1, h2⟩ := top_real ok x b
  let e : ι → ℝ := fun j => if ok j then Real.exp (x j - m) else 0
  have e1 : ∀ j, Ideal.exp (score ok x j - (m : EReal)) = ((e j : ℝ) : EReal) := fun j => by
    by_cases h : ok j
    · rw [score, if_pos h, exp_real, show e j = _ from if_pos h]
    · rw [score, if_neg h, show e j = _ from if_neg h, EReal.bot_sub]; rfl
  have e2 : ∀ j, Ideal.exp2 (score ok (fun j => x j * c2) j - ((m * c2 : ℝ) : EReal)) = ((e j : ℝ) : EReal) := fun j => by
    by_cases h : ok j
    · rw [score, if_pos h, exp2_real, show e j = _ from if_pos h]
    · rw [score, if_neg h, show e j = _ from if_neg h, EReal.bot_sub]; rfl
  have en : ∀ j, 0 ≤ e j := fun j => by
    by_cases h : ok j
    · rw [show e j = _ from if_pos h]; exact (Real.exp_pos _).le
    · rw [show e j = _ from if_neg h]
  have sum : (∑ j, ((e j : ℝ) : EReal)) = ((∑ j, e j : ℝ) : EReal) := by
    classical
    induction (Finset.univ : Finset ι) using Finset.induction_on with
    | empty => simp
    | insert a s ha ih => rw [Finset.sum_insert ha, Finset.sum_insert ha, ih, EReal.coe_add]
  have pos : (0 : ℝ) < (∑ j, e j) + Real.exp (b - m) :=
    add_pos_of_nonneg_of_pos (Finset.sum_nonneg fun j _ => en j) (Real.exp_pos _)
  have ne : (((∑ j, e j) + Real.exp (b - m) : ℝ) : EReal) ≠ 0 := by exact_mod_cast pos.ne'
  unfold soft2 soft
  rw [h1, h2]
  simp only [e1, e2, exp2_real, exp_real, sum, ← EReal.coe_add, Ideal.div, if_neg ne, one_mul]
  refine Finset.sum_congr rfl fun j _ => ?_
  by_cases h : ok j
  · rw [hv j h]
  · rw [show e j = _ from if_neg h, EReal.coe_zero, zero_mul, mul_zero, mul_zero]

/-- The order of the keys does not matter. -/
theorem soft_comp (σ : ι ≃ ι) (v S : ι → EReal) (b : EReal) : soft (fun k => v (σ k)) (fun k => S (σ k)) b = soft v S b := by
  have ht : top (fun k => S (σ k)) b = top S b := by
    unfold top
    congr 1
    conv_rhs => rw [← Finset.univ_map_equiv_to_embedding σ]
    rw [Finset.fold_map]; rfl
  unfold soft
  rw [ht]
  rw [Equiv.sum_comp σ (fun j => Ideal.exp (S j - top S b)), Equiv.sum_comp σ (fun j => v j * Ideal.div (Ideal.exp (S j - top S b)) ((∑ j, Ideal.exp (S j - top S b)) + Ideal.exp (b - top S b)))]

end Cert.SwaMath

end
-- ==== Proof.SwaHead.lean ====
/-
  The attention kernel's block at an index: of each head the weighted sum in powers of two over the 256 keys of a query.
-/
module

public import proofs.«01_k».proof.Proof.SwaMath

@[expose] public section

set_option maxRecDepth 16384

noncomputable section

namespace Cert.SwaIdeal.Heads

open Cert.SwaIdeal Cert.SwaIdeal.Gen Cert.SwaIdeal.Block Cert.SwaMath
open Idealize.ShloMosaic Idealize.ShloMosaic.TcCoe Idealize.SL.Sem

theorem negInf : Ideal.ofBits .f32 0xFF800000#32 = ⊥ := by
  simp [Ideal.ofBits, Ideal.ieee]

theorem headO_at (V : FVec Ideal S256x128 .bf16) (s : FVec Ideal S256x128 .f32) (sk : FVec Ideal S1x128 .f32)
    (l r : Fin 128) :
    headO V s sk (ix2 l r) = soft2 (fun k => V (ix2 k l)) (fun k => s (ix2 k r)) (sk (ix2 0 r)) := by
  pointwise [headO, headV, headR, headP, headM]
  rw [negInf]
  rfl

/-- The half of the lanes that a head's queries keep. -/
def Keeps (mask : IVec S128x128 1) (half : Fin 2) : Prop :=
  ∀ i l : Fin 128, mask (ix2 i l) = if l.val / 64 = half.val then 1#1 else 0#1

theorem word64 (l : Fin 128) : IntOp.cmpi .slt (BitVec.ofNat 32 l.val) 64#32 = if l.val < 64 then 1#1 else 0#1 := by
  have := l.isLt
  word_cmp
  by_cases h : l.val < 64 <;> simp [h]

theorem keeps_lo : Keeps lo 0 := fun i l => by
  pointwise [lo, k0_pay5]
  rw [word64]
  have := l.isLt
  by_cases h : l.val < 64
  · rw [if_pos h, if_pos (show l.val / 64 = 0 by omega)]
  · rw [if_neg h, if_neg (show ¬ l.val / 64 = 0 by omega)]

theorem keeps_hi : Keeps hi 1 := fun i l => by
  pointwise [hi, k0_pay5]
  rw [word64]
  have := l.isLt
  by_cases h : l.val < 64
  · rw [if_pos h, if_neg (show ¬ l.val / 64 = 1 by omega)]; rfl
  · rw [if_neg h, if_pos (show l.val / 64 = 1 by omega)]; rfl

/-- A sum over the lanes that keeps one half is the sum over the half. -/
theorem half_sum (half : Fin 2) (f : Fin 128 → EReal) (g : Fin 128 → EReal)
    (hf : ∀ x : Fin 128, x.val / 64 = half.val → f x = g x) (h0 : ∀ x : Fin 128, x.val / 64 ≠ half.val → f x = 0) :
    ∑ x, f x = ∑ e : Fin 64, g ⟨half.val * 64 + e.val, by omega⟩ := by
  rw [show (∑ x, f x) = _ from Fin.sum_univ_add (a := 64) (b := 64) f]
  fin_cases half
  · rw [Finset.sum_congr rfl fun (e : Fin 64) _ => hf (Fin.castAdd 64 e) (by simp <;> omega),
      Finset.sum_eq_zero fun (e : Fin 64) _ => h0 (Fin.natAdd 64 e) (by simp <;> omega), add_zero]
    exact Finset.sum_congr rfl fun e _ => congrArg g (Fin.ext (by simp <;> omega))
  · rw [Finset.sum_eq_zero fun (e : Fin 64) _ => h0 (Fin.castAdd 64 e) (by simp <;> omega),
      Finset.sum_congr rfl fun (e : Fin 64) _ => hf (Fin.natAdd 64 e) (by simp <;> omega), zero_add]
    exact Finset.sum_congr rfl fun e _ => congrArg g (Fin.ext (by simp <;> omega))

theorem headS_at (mask : IVec S128x128 1) (half : Fin 2) (hm : Keeps mask half) (o : Nat)
    (ho : S128x1024.Slices ![0, o] S128x128) (ho' : o + 128 ≤ 1024) (K : FVec Ideal S256x128 .bf16) (σ : Ideal .f32)
    (q : FVec Ideal S128x1024 .bf16) (dist : FVec Ideal S256x128 .f32) (k : Fin 256) (r : Fin 128) :
    headS K (headQ mask o q ho) dist σ (ix2 k r) =
      (∑ e : Fin 64, K (ix2 k ⟨half.val * 64 + e.val, by omega⟩) * q (ix2 r ⟨o + (half.val * 64 + e.val), by omega⟩))
        - σ * dist (ix2 k r) := by
  pointwise [headS, headQ]
  congr 1
  refine half_sum half _ (fun x => K (ix2 k x) * q (ix2 r ⟨o + x.val, by omega⟩)) (fun x hx => ?_) (fun x hx => ?_)
  · rw [hm, if_pos hx]; rfl
  · rw [hm, if_neg hx]
    show _ * (((0#32).toInt : ℝ) : EReal) = 0
    simp

/-- One head at a lane of its half. -/
theorem head_at (mask : IVec S128x128 1) (half : Fin 2) (hm : Keeps mask half) (o : Nat)
    (ho : S128x1024.Slices ![0, o] S128x128) (ho' : o + 128 ≤ 1024) (K V : FVec Ideal S256x128 .bf16) (σ : Ideal .f32)
    (h : Fin 16) (hr : S16x128.Slices ![h.val, 0] S1x128) (q : FVec Ideal S128x1024 .bf16)
    (dist : FVec Ideal S256x128 .f32) (sk : FVec Ideal S16x128 .f32) (c r : Fin 128) :
    head mask o ho K V σ h.val hr q dist sk (ix2 c r) =
      soft2 (fun k => V (ix2 k c))
        (fun k => (∑ e : Fin 64, K (ix2 k ⟨half.val * 64 + e.val, by omega⟩) *
          q (ix2 r ⟨o + (half.val * 64 + e.val), by omega⟩)) - σ * dist (ix2 k r)) (sk (ix2 h r)) := by
  unfold head
  rw [headO_at]
  simp only [headS_at mask half hm o ho ho']
  congr 1
  pointwise []

/-- The keys of this block and of the block before it, one after the other. -/
def both (a b : Vec Ideal S128x128 .f32) (k : Fin 256) (c : Fin 128) : EReal :=
  if h : k.val < 128 then a (ix2 ⟨k.val, h⟩ c) else b (ix2 ⟨k.val - 128, by omega⟩ c)

theorem pay8_at (x1 x3 : Vec Ideal S128x128 .f32) (k : Fin 256) (c : Fin 128) :
    k0_pay8 (F := Ideal) x1 x3 (ix2 k c) = both x1 x3 k c := by
  pointwise [k0_pay8]
  rfl

theorem pay9_at (x1 x3 : Vec Ideal S128x128 .f32) (k : Fin 256) (c : Fin 128) :
    k0_pay9 (F := Ideal) x1 x3 (ix2 k c) = both x1 x3 k c := by
  pointwise [k0_pay9]
  rfl

theorem pay10_at (x1 x3 : Vec Ideal S128x128 .f32) (k : Fin 256) (c c' : Fin 128) (h : c'.val = (c.val + 64) % 128) :
    k0_pay10 (F := Ideal) (k0_pay8 (F := Ideal) x1 x3) (ix2 k c) = both x1 x3 k c' := by
  pointwise [k0_pay10, k0_pay8]
  unfold both
  by_cases hc : c.val < 64
  · rw [dif_pos hc, show c' = ⟨64 + c.val, by clear h; omega⟩ from Fin.ext (by simp only []; omega)]
  · rw [dif_neg hc, show c' = ⟨c.val - 64, by clear h; omega⟩ from Fin.ext (by simp only []; omega)]

theorem pay11_at (x1 x3 : Vec Ideal S128x128 .f32) (k : Fin 256) (c c' : Fin 128) (h : c'.val = (c.val + 64) % 128) :
    k0_pay11 (F := Ideal) x1 x3 (ix2 k c) = both x1 x3 k c' := by
  pointwise [k0_pay11, k0_pay9]
  unfold both
  by_cases hc : c.val < 64
  · rw [dif_pos hc, show c' = ⟨64 + c.val, by clear h; omega⟩ from Fin.ext (by simp only []; omega)]
  · rw [dif_neg hc, show c' = ⟨c.val - 64, by clear h; omega⟩ from Fin.ext (by simp only []; omega)]

/-- The scale of the scores times one over the logarithm of two, and that number alone. -/
def scale : EReal := Named.named (F := Ideal) (φ := .f32) κ "eighth_log2e" 0x3E38AA3B#32
def unit : EReal := Named.named (F := Ideal) (φ := .f32) κ "log2e" 0x3FB8AA3B#32

theorem pay7_at (x0 : Vec Ideal S128x1024 .f32) (r : Fin 128) (c : Fin 1024) :
    k0_pay7 (F := Ideal) x0 (ix2 r c) = x0 (ix2 r c) * scale := by
  pointwise [k0_pay7]
  rfl

theorem pay12_at (x5 : Vec Ideal S16x128 .f32) (h : Fin 16) (r : Fin 128) :
    k0_pay12 (F := Ideal) x5 (ix2 h r) = x5 (ix2 h r) * unit := by
  pointwise [k0_pay12]
  rfl

/-- What head `h` leaves at lane `d` of query `r`. -/
def spec (i : grid0.Coords) (x0 : Vec Ideal S128x1024 .f32) (x1 x2 x3 x4 : Vec Ideal S128x128 .f32)
    (x5 : Vec Ideal S16x128 .f32) (h : Fin 16) (d : Fin 64) (r : Fin 128) : EReal :=
  soft2 (fun k => both x2 x4 k ⟨h.val / 8 * 64 + d.val, by omega⟩)
    (fun k => (∑ e : Fin 64, both x1 x3 k ⟨h.val / 8 * 64 + e.val, by omega⟩ *
      (x0 (ix2 r ⟨h.val * 64 + e.val, by omega⟩) * scale)) - slope (F := Ideal) h.val * k0_pay4 (F := Ideal) i (ix2 k r))
    (x5 (ix2 h r) * unit)

/-- A head that is read like head `h` leaves what head `h` leaves. -/
theorem head_spec (mask : IVec S128x128 1) (half : Fin 2) (hm : Keeps mask half) (o : Nat)
    (ho : S128x1024.Slices ![0, o] S128x128) (ho' : o + 128 ≤ 1024) (K V : FVec Ideal S256x128 .bf16)
    (h : Fin 16) (hr : S16x128.Slices ![h.val, 0] S1x128)
    (i : grid0.Coords) (x0 : Vec Ideal S128x1024 .f32) (x1 x2 x3 x4 : Vec Ideal S128x128 .f32) (x5 : Vec Ideal S16x128 .f32)
    (hK : ∀ (k : Fin 256) (c : Fin 128), c.val / 64 = half.val →
      K (ix2 k c) = both x1 x3 k ⟨h.val / 8 * 64 + c.val % 64, by omega⟩)
    (hV : ∀ (k : Fin 256) (c : Fin 128), c.val / 64 = half.val →
      V (ix2 k c) = both x2 x4 k ⟨h.val / 8 * 64 + c.val % 64, by omega⟩)
    (hq : o + half.val * 64 = h.val * 64) (c r : Fin 128) (hc : c.val / 64 = half.val) :
    head mask o ho K V (slope (F := Ideal) h.val) h.val hr (k0_pay7 x0) (k0_pay4 i) (k0_pay12 x5) (ix2 c r) =
      spec i x0 x1 x2 x3 x4 x5 h ⟨c.val % 64, by omega⟩ r := by
  rw [head_at mask half hm o ho ho' K V _ h hr]
  unfold spec
  rw [pay12_at]
  congr 1
  · exact funext fun k => hV k c hc
  · refine funext fun k => ?_
    congr 1
    refine Finset.sum_congr rfl fun e _ => ?_
    rw [hK k _ (by simp only []; omega), pay7_at]
    congr 2
    · exact Fin.ext (by simp only []; omega)
    · exact congrArg (fun y => x0 (ix2 r y)) (Fin.ext (by simp only []; omega))

theorem plainK {a b : Vec Ideal S128x128 .f32} {f : FVec Ideal S256x128 .bf16} (hf : ∀ k c, f (ix2 k c) = both a b k c)
    (w : Fin 2) (k : Fin 256) (c : Fin 128) (hc : c.val / 64 = w.val) :
    f (ix2 k c) = both a b k ⟨w.val * 64 + c.val % 64, by omega⟩ :=
  (hf k c).trans (congrArg (both a b k) (Fin.ext (by simp only []; omega)))

theorem turned {a b : Vec Ideal S128x128 .f32} {f : FVec Ideal S256x128 .bf16}
    (hf : ∀ k (c c' : Fin 128), c'.val = (c.val + 64) % 128 → f (ix2 k c) = both a b k c')
    (w w' : Fin 2) (hw : w ≠ w') (k : Fin 256) (c : Fin 128) (hc : c.val / 64 = w'.val) :
    f (ix2 k c) = both a b k ⟨w.val * 64 + c.val % 64, by omega⟩ :=
  hf k c _ (by have : w.val ≠ w'.val := fun h => hw (Fin.ext h); simp only []; omega)

variable (i : grid0.Coords) (x0 : Vec Ideal S128x1024 .f32) (x1 x2 x3 x4 : Vec Ideal S128x128 .f32) (x5 : Vec Ideal S16x128 .f32)

theorem head0_spec (c r : Fin 128) (hc : c.val / 64 = 0) :
    head0 (F := Ideal) i x0 x1 x2 x3 x4 x5 (ix2 c r) = spec i x0 x1 x2 x3 x4 x5 0 ⟨c.val % 64, by omega⟩ r :=
  head_spec _ 0 keeps_lo 0 _ (by decide) _ _ 0 _ i x0 x1 x2 x3 x4 x5
    (plainK (pay8_at x1 x3) 0) (plainK (pay9_at x2 x4) 0) rfl c r hc

theorem head1_spec (c r : Fin 128) (hc : c.val / 64 = 1) :
    head1 (F := Ideal) i x0 x1 x2 x3 x4 x5 (ix2 c r) = spec i x0 x1 x2 x3 x4 x5 1 ⟨c.val % 64, by omega⟩ r :=
  head_spec _ 1 keeps_hi 0 _ (by decide) _ _ 1 _ i x0 x1 x2 x3 x4 x5
    (turned (pay10_at x1 x3) 0 1 (by decide)) (turned (pay11_at x2 x4) 0 1 (by decide)) rfl c r hc

theorem head2_spec (c r : Fin 128) (hc : c.val / 64 = 0) :
    head2 (F := Ideal) i x0 x1 x2 x3 x4 x5 (ix2 c r) = spec i x0 x1 x2 x3 x4 x5 2 ⟨c.val % 64, by omega⟩ r :=
  head_spec _ 0 keeps_lo 128 _ (by decide) _ _ 2 _ i x0 x1 x2 x3 x4 x5
    (plainK (pay8_at x1 x3) 0) (plainK (pay9_at x2 x4) 0) rfl c r hc

theorem head3_spec (c r : Fin 128) (hc : c.val / 64 = 1) :
    head3 (F := Ideal) i x0 x1 x2 x3 x4 x5 (ix2 c r) = spec i x0 x1 x2 x3 x4 x5 3 ⟨c.val % 64, by omega⟩ r :=
  head_spec _ 1 keeps_hi 128 _ (by decide) _ _ 3 _ i x0 x1 x2 x3 x4 x5
    (turned (pay10_at x1 x3) 0 1 (by decide)) (turned (pay11_at x2 x4) 0 1 (by decide)) rfl c r hc

theorem head4_spec (c r : Fin 128) (hc : c.val / 64 = 0) :
    head4 (F := Ideal) i x0 x1 x2 x3 x4 x5 (ix2 c r) = spec i x0 x1 x2 x3 x4 x5 4 ⟨c.val % 64, by omega⟩ r :=
  head_spec _ 0 keeps_lo 256 _ (by decide) _ _ 4 _ i x0 x1 x2 x3 x4 x5
    (plainK (pay8_at x1 x3) 0) (plainK (pay9_at x2 x4) 0) rfl c r hc

theorem head5_spec (c r : Fin 128) (hc : c.val / 64 = 1) :
    head5 (F := Ideal) i x0 x1 x2 x3 x4 x5 (ix2 c r) = spec i x0 x1 x2 x3 x4 x5 5 ⟨c.val % 64, by omega⟩ r :=
  head_spec _ 1 keeps_hi 256 _ (by decide) _ _ 5 _ i x0 x1 x2 x3 x4 x5
    (turned (pay10_at x1 x3) 0 1 (by decide)) (turned (pay11_at x2 x4) 0 1 (by decide)) rfl c r hc

theorem head6_spec (c r : Fin 128) (hc : c.val / 64 = 0) :
    head6 (F := Ideal) i x0 x1 x2 x3 x4 x5 (ix2 c r) = spec i x0 x1 x2 x3 x4 x5 6 ⟨c.val % 64, by omega⟩ r :=
  head_spec _ 0 keeps_lo 384 _ (by decide) _ _ 6 _ i x0 x1 x2 x3 x4 x5
    (plainK (pay8_at x1 x3) 0) (plainK (pay9_at x2 x4) 0) rfl c r hc

theorem head7_spec (c r : Fin 128) (hc : c.val / 64 = 1) :
    head7 (F := Ideal) i x0 x1 x2 x3 x4 x5 (ix2 c r) = spec i x0 x1 x2 x3 x4 x5 7 ⟨c.val % 64, by omega⟩ r :=
  head_spec _ 1 keeps_hi 384 _ (by decide) _ _ 7 _ i x0 x1 x2 x3 x4 x5
    (turned (pay10_at x1 x3) 0 1 (by decide)) (turned (pay11_at x2 x4) 0 1 (by decide)) rfl c r hc

theorem head8_spec (c r : Fin 128) (hc : c.val / 64 = 0) :
    head8 (F := Ideal) i x0 x1 x2 x3 x4 x5 (ix2 c r) = spec i x0 x1 x2 x3 x4 x5 8 ⟨c.val % 64, by omega⟩ r :=
  head_spec _ 0 keeps_lo 512 _ (by decide) _ _ 8 _ i x0 x1 x2 x3 x4 x5
    (turned (pay10_at x1 x3) 1 0 (by decide)) (turned (pay11_at x2 x4) 1 0 (by decide)) rfl c r hc

theorem head9_spec (c r : Fin 128) (hc : c.val / 64 = 1) :
    head9 (F := Ideal) i x0 x1 x2 x3 x4 x5 (ix2 c r) = spec i x0 x1 x2 x3 x4 x5 9 ⟨c.val % 64, by omega⟩ r :=
  head_spec _ 1 keeps_hi 512 _ (by decide) _ _ 9 _ i x0 x1 x2 x3 x4 x5
    (plainK (pay8_at x1 x3) 1) (plainK (pay9_at x2 x4) 1) rfl c r hc

theorem head10_spec (c r : Fin 128) (hc : c.val / 64 = 0) :
    head10 (F := Ideal) i x0 x1 x2 x3 x4 x5 (ix2 c r) = spec i x0 x1 x2 x3 x4 x5 10 ⟨c.val % 64, by omega⟩ r :=
  head_spec _ 0 keeps_lo 640 _ (by decide) _ _ 10 _ i x0 x1 x2 x3 x4 x5
    (turned (pay10_at x1 x3) 1 0 (by decide)) (turned (pay11_at x2 x4) 1 0 (by decide)) rfl c r hc

theorem head11_spec (c r : Fin 128) (hc : c.val / 64 = 1) :
    head11 (F := Ideal) i x0 x1 x2 x3 x4 x5 (ix2 c r) = spec i x0 x1 x2 x3 x4 x5 11 ⟨c.val % 64, by omega⟩ r :=
  head_spec _ 1 keeps_hi 640 _ (by decide) _ _ 11 _ i x0 x1 x2 x3 x4 x5
    (plainK (pay8_at x1 x3) 1) (plainK (pay9_at x2 x4) 1) rfl c r hc

theorem head12_spec (c r : Fin 128) (hc : c.val / 64 = 0) :
    head12 (F := Ideal) i x0 x1 x2 x3 x4 x5 (ix2 c r) = spec i x0 x1 x2 x3 x4 x5 12 ⟨c.val % 64, by omega⟩ r :=
  head_spec _ 0 keeps_lo 768 _ (by decide) _ _ 12 _ i x0 x1 x2 x3 x4 x5
    (turned (pay10_at x1 x3) 1 0 (by decide)) (turned (pay11_at x2 x4) 1 0 (by decide)) rfl c r hc

theorem head13_spec (c r : Fin 128) (hc : c.val / 64 = 1) :
    head13 (F := Ideal) i x0 x1 x2 x3 x4 x5 (ix2 c r) = spec i x0 x1 x2 x3 x4 x5 13 ⟨c.val % 64, by omega⟩ r :=
  head_spec _ 1 keeps_hi 768 _ (by decide) _ _ 13 _ i x0 x1 x2 x3 x4 x5
    (plainK (pay8_at x1 x3) 1) (plainK (pay9_at x2 x4) 1) rfl c r hc

theorem head14_spec (c r : Fin 128) (hc : c.val / 64 = 0) :
    head14 (F := Ideal) i x0 x1 x2 x3 x4 x5 (ix2 c r) = spec i x0 x1 x2 x3 x4 x5 14 ⟨c.val % 64, by omega⟩ r :=
  head_spec _ 0 keeps_lo 896 _ (by decide) _ _ 14 _ i x0 x1 x2 x3 x4 x5
    (turned (pay10_at x1 x3) 1 0 (by decide)) (turned (pay11_at x2 x4) 1 0 (by decide)) rfl c r hc

theorem head15_spec (c r : Fin 128) (hc : c.val / 64 = 1) :
    head15 (F := Ideal) i x0 x1 x2 x3 x4 x5 (ix2 c r) = spec i x0 x1 x2 x3 x4 x5 15 ⟨c.val % 64, by omega⟩ r :=
  head_spec _ 1 keeps_hi 896 _ (by decide) _ _ 15 _ i x0 x1 x2 x3 x4 x5
    (plainK (pay8_at x1 x3) 1) (plainK (pay9_at x2 x4) 1) rfl c r hc

theorem pair_at (a b : FVec Ideal S128x128 .f32) (r c : Fin 128) :
    pair a b (ix2 r c) = if c.val < 64 then a (ix2 c r) else b (ix2 c r) := by
  pointwise [pair, k0_pay6]
  rw [word64]
  by_cases h : c.val < 64
  · rw [if_pos h, if_pos h]; rfl
  · rw [if_neg h, if_neg h]; rfl

/-- A pair of heads at a lane is the head of the lane. -/
theorem pair_spec (a b : FVec Ideal S128x128 .f32) (g g' : Fin 16) (r c : Fin 128)
    (ha : ∀ c r : Fin 128, c.val / 64 = 0 → a (ix2 c r) = spec i x0 x1 x2 x3 x4 x5 g ⟨c.val % 64, by omega⟩ r)
    (hb : ∀ c r : Fin 128, c.val / 64 = 1 → b (ix2 c r) = spec i x0 x1 x2 x3 x4 x5 g' ⟨c.val % 64, by omega⟩ r)
    (C : Fin 1024) (hg : g.val * 64 + c.val = C.val) (hg' : g'.val = g.val + 1) (hev : g.val % 2 = 0) :
    pair a b (ix2 r c) = spec i x0 x1 x2 x3 x4 x5 ⟨C.val / 64, by omega⟩ ⟨C.val % 64, by omega⟩ r := by
  rw [pair_at]
  by_cases h : c.val < 64
  · rw [if_pos h, ha c r (by omega)]
    congr 1
    · exact Fin.ext (by simp only []; omega)
    · exact Fin.ext (by simp only []; omega)
  · rw [if_neg h, hb c r (by omega)]
    congr 1
    · exact Fin.ext (by simp only []; omega)
    · exact Fin.ext (by simp only []; omega)

theorem pair0_spec (r c : Fin 128) (C : Fin 1024) (hC : C.val = 0 + c.val) :
    pair (head0 (F := Ideal) i x0 x1 x2 x3 x4 x5) (head1 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨0, by decide⟩ ⟨1, by decide⟩ r c (head0_spec i x0 x1 x2 x3 x4 x5) (head1_spec i x0 x1 x2 x3 x4 x5) C
    (by simp only []; omega) (by simp only []) (by simp only [])

theorem pair1_spec (r c : Fin 128) (C : Fin 1024) (hC : C.val = 128 + c.val) :
    pair (head2 (F := Ideal) i x0 x1 x2 x3 x4 x5) (head3 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨2, by decide⟩ ⟨3, by decide⟩ r c (head2_spec i x0 x1 x2 x3 x4 x5) (head3_spec i x0 x1 x2 x3 x4 x5) C
    (by simp only []; omega) (by simp only []) (by simp only [])

theorem pair2_spec (r c : Fin 128) (C : Fin 1024) (hC : C.val = 256 + c.val) :
    pair (head4 (F := Ideal) i x0 x1 x2 x3 x4 x5) (head5 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨4, by decide⟩ ⟨5, by decide⟩ r c (head4_spec i x0 x1 x2 x3 x4 x5) (head5_spec i x0 x1 x2 x3 x4 x5) C
    (by simp only []; omega) (by simp only []) (by simp only [])

theorem pair3_spec (r c : Fin 128) (C : Fin 1024) (hC : C.val = 384 + c.val) :
    pair (head6 (F := Ideal) i x0 x1 x2 x3 x4 x5) (head7 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨6, by decide⟩ ⟨7, by decide⟩ r c (head6_spec i x0 x1 x2 x3 x4 x5) (head7_spec i x0 x1 x2 x3 x4 x5) C
    (by simp only []; omega) (by simp only []) (by simp only [])

theorem pair4_spec (r c : Fin 128) (C : Fin 1024) (hC : C.val = 512 + c.val) :
    pair (head8 (F := Ideal) i x0 x1 x2 x3 x4 x5) (head9 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨8, by decide⟩ ⟨9, by decide⟩ r c (head8_spec i x0 x1 x2 x3 x4 x5) (head9_spec i x0 x1 x2 x3 x4 x5) C
    (by simp only []; omega) (by simp only []) (by simp only [])

theorem pair5_spec (r c : Fin 128) (C : Fin 1024) (hC : C.val = 640 + c.val) :
    pair (head10 (F := Ideal) i x0 x1 x2 x3 x4 x5) (head11 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨10, by decide⟩ ⟨11, by decide⟩ r c (head10_spec i x0 x1 x2 x3 x4 x5) (head11_spec i x0 x1 x2 x3 x4 x5) C
    (by simp only []; omega) (by simp only []) (by simp only [])

theorem pair6_spec (r c : Fin 128) (C : Fin 1024) (hC : C.val = 768 + c.val) :
    pair (head12 (F := Ideal) i x0 x1 x2 x3 x4 x5) (head13 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨12, by decide⟩ ⟨13, by decide⟩ r c (head12_spec i x0 x1 x2 x3 x4 x5) (head13_spec i x0 x1 x2 x3 x4 x5) C
    (by simp only []; omega) (by simp only []) (by simp only [])

theorem pair7_spec (r c : Fin 128) (C : Fin 1024) (hC : C.val = 896 + c.val) :
    pair (head14 (F := Ideal) i x0 x1 x2 x3 x4 x5) (head15 (F := Ideal) i x0 x1 x2 x3 x4 x5) (ix2 r c) =
      spec i x0 x1 x2 x3 x4 x5 ⟨C.val / 64, by omega⟩ ⟨C.val % 64, by omega⟩ r :=
  pair_spec i x0 x1 x2 x3 x4 x5 _ _ ⟨14, by decide⟩ ⟨15, by decide⟩ r c (head14_spec i x0 x1 x2 x3 x4 x5) (head15_spec i x0 x1 x2 x3 x4 x5) C
    (by simp only []; omega) (by simp only []) (by simp only [])

/-- The block at an index. -/
theorem block_spec (r : Fin 128) (C : Fin 1024) : block (F := Ideal) i x0 x1 x2 x3 x4 x5 (ix2 r C) =
    spec i x0 x1 x2 x3 x4 x5 ⟨C.val / 64, by omega⟩ ⟨C.val % 64, by omega⟩ r := by
  pointwise [block]
  by_cases h0 : C.val < 128
  · rw [dif_pos h0]
    exact pair0_spec i x0 x1 x2 x3 x4 x5 r ⟨C.val, by omega⟩ C (by simp only []; omega)
  rw [dif_neg h0]
  by_cases h1 : C.val - 128 < 128
  · rw [dif_pos h1]
    exact pair1_spec i x0 x1 x2 x3 x4 x5 r ⟨C.val - 128, by omega⟩ C (by simp only []; omega)
  rw [dif_neg h1]
  by_cases h2 : C.val - 128 - 128 < 128
  · rw [dif_pos h2]
    exact pair2_spec i x0 x1 x2 x3 x4 x5 r ⟨C.val - 128 - 128, by omega⟩ C (by simp only []; omega)
  rw [dif_neg h2]
  by_cases h3 : C.val - 128 - 128 - 128 < 128
  · rw [dif_pos h3]
    exact pair3_spec i x0 x1 x2 x3 x4 x5 r ⟨C.val - 128 - 128 - 128, by omega⟩ C (by simp only []; omega)
  rw [dif_neg h3]
  by_cases h4 : C.val - 128 - 128 - 128 - 128 < 128
  · rw [dif_pos h4]
    exact pair4_spec i x0 x1 x2 x3 x4 x5 r ⟨C.val - 128 - 128 - 128 - 128, by omega⟩ C (by simp only []; omega)
  rw [dif_neg h4]
  by_cases h5 : C.val - 128 - 128 - 128 - 128 - 128 < 128
  · rw [dif_pos h5]
    exact pair5_spec i x0 x1 x2 x3 x4 x5 r ⟨C.val - 128 - 128 - 128 - 128 - 128, by omega⟩ C (by simp only []; omega)
  rw [dif_neg h5]
  by_cases h6 : C.val - 128 - 128 - 128 - 128 - 128 - 128 < 128
  · rw [dif_pos h6]
    exact pair6_spec i x0 x1 x2 x3 x4 x5 r ⟨C.val - 128 - 128 - 128 - 128 - 128 - 128, by omega⟩ C (by simp only []; omega)
  rw [dif_neg h6]
  exact pair7_spec i x0 x1 x2 x3 x4 x5 r ⟨C.val - 128 - 128 - 128 - 128 - 128 - 128 - 128, by omega⟩ C (by simp only []; omega)

end Cert.SwaIdeal.Heads

end
-- ==== Proof.SwaScore.lean ====
/-
  The attention kernel's distances and named constants as real numbers.
-/
module

public import proofs.«01_k».proof.Proof.SwaHead

@[expose] public section

set_option maxRecDepth 16384

noncomputable section

namespace Cert.SwaIdeal.Heads

open Cert.SwaIdeal Cert.SwaIdeal.Gen Cert.SwaIdeal.Block Cert.SwaMath
open Idealize.ShloMosaic Idealize.ShloMosaic.TcCoe Idealize.SL.Sem

/-- The keys a query sees: those of its block up to itself, and the later ones of the block before it. -/
def Seen (n r k : ℕ) : Prop := if k < 128 then k ≤ r else 0 < n ∧ r + 128 < k

instance (n r k : ℕ) : Decidable (Seen n r k) := by unfold Seen; infer_instance

/-- How far before the query the key is. -/
def away (r k : ℕ) : ℝ := if k < 128 then (r : ℝ) - k else (r : ℝ) - k + 256

/-- The slope of a head. -/
def fall (h : ℕ) : ℝ := (Real.sqrt (2 ^ (h + 1)))⁻¹

theorem scale_eq : scale = ((8⁻¹ * c2 : ℝ) : EReal) := rfl

theorem unit_eq : unit = ((c2 : ℝ) : EReal) := rfl

theorem slope_eq (h : Fin 16) : slope (F := Ideal) h.val = ((fall h.val * c2 : ℝ) : EReal) := by
  have e : (8 : ℝ)⁻¹ = (Real.sqrt (2 ^ (5 + 1)))⁻¹ := by
    rw [show ((2 : ℝ) ^ (5 + 1)) = 8 ^ 2 by norm_num, Real.sqrt_sq (by norm_num)]
  fin_cases h
  all_goals first
    | (show ((8⁻¹ * (Real.log 2)⁻¹ : ℝ) : EReal) = _; rw [e]; rfl)
    | (refine Eq.trans (b := (((Real.sqrt _)⁻¹ * (Real.log 2)⁻¹ : ℝ) : EReal)) rfl ?_; unfold fall c2; norm_num)

theorem word_sub (a b : ℕ) (h : b ≤ a) (ha : a < 2 ^ 31) :
    IntOp.subi (BitVec.ofNat 32 a) (BitVec.ofNat 32 b) = BitVec.ofNat 32 (a - b) := by
  refine BitVec.eq_of_toNat_eq ?_
  simp only [IntOp.subi, BitVec.toNat_sub, BitVec.toNat_ofNat]
  omega

theorem word_sub_add (a b c : ℕ) (h : b ≤ a + c) (hb : b < 2 ^ 31) (ha : a < 2 ^ 30) (hc : c < 2 ^ 30) :
    IntOp.addi (IntOp.subi (BitVec.ofNat 32 a) (BitVec.ofNat 32 b)) (BitVec.ofNat 32 c) = BitVec.ofNat 32 (a + c - b) := by
  refine BitVec.eq_of_toNat_eq ?_
  simp only [IntOp.subi, IntOp.addi, BitVec.toNat_sub, BitVec.toNat_add, BitVec.toNat_ofNat]
  omega

theorem word_real (a : ℕ) (ha : a < 2 ^ 31) : (FloatOps.sitofp .f32 (BitVec.ofNat 32 a) : Ideal .f32) = ((a : ℝ) : EReal) := by
  show (((BitVec.ofNat 32 a).toInt : ℝ) : EReal) = _
  rw [BitVec.toInt_eq_toNat_of_lt (by simp only [BitVec.toNat_ofNat]; omega), BitVec.toNat_ofNat, Nat.mod_eq_of_lt (by omega)]
  rfl

theorem posInf : Ideal.ofBits .f32 0x7F800000#32 = ⊤ := by
  simp [Ideal.ofBits, Ideal.ieee]

theorem dist_eq (i : grid0.Coords) (k : Fin 256) (r : Fin 128) :
    k0_pay4 (F := Ideal) i (ix2 k r) = if Seen (i 1).val r.val k.val then ((away r.val k.val : ℝ) : EReal) else ⊤ := by
  have hn : (i 1).val < 32 := (i 1).isLt
  have hk := k.isLt
  have hr := r.isLt
  pointwise [k0_pay4]
  generalize (i 1).val = n at hn ⊢
  rw [posInf]
  by_cases hk' : k.val < 128
  · by_cases hs : k.val ≤ r.val
    · rw [if_pos (show Seen n r.val k.val by unfold Seen; rw [if_pos hk']; exact hs),
        show away r.val k.val = ((r.val - k.val : ℕ) : ℝ) by rw [away, if_pos hk', Nat.cast_sub hs],
        ← word_real _ (by omega), ← word_sub _ _ hs (by omega)]
      word_cmp
      simp [hk', hs, Scalar.select, IntOp.ori, IntOp.andi, IntOp.xori]
    · rw [if_neg (show ¬ Seen n r.val k.val by unfold Seen; rw [if_pos hk']; exact hs)]
      word_cmp
      simp [hk', hs, Scalar.select, IntOp.ori, IntOp.andi, IntOp.xori]
  · rw [word_sub k.val 128 (by omega) (by omega)]
    by_cases hs : 0 < n ∧ r.val + 128 < k.val
    · rw [if_pos (show Seen n r.val k.val by unfold Seen; rw [if_neg hk']; exact hs),
        show away r.val k.val = ((r.val + 256 - k.val : ℕ) : ℝ) by
          rw [away, if_neg hk', Nat.cast_sub (by omega)]; push_cast; ring,
        ← word_real _ (by omega), ← word_sub_add _ _ _ (by omega) (by omega) (by omega) (by omega)]
      have h1 : r.val < k.val - 128 := by omega
      word_cmp
      simp [hk', hs.1, h1, Scalar.select, IntOp.ori, IntOp.andi, IntOp.xori]
    · rw [if_neg (show ¬ Seen n r.val k.val by unfold Seen; rw [if_neg hk']; exact hs)]
      have h1 : ¬ (r.val < k.val - 128 ∧ 0 < n) := fun h => hs ⟨h.2, by omega⟩
      word_cmp
      by_cases h2 : r.val < k.val - 128
      · have h3 : n = 0 := by omega
        simp [hk', h2, h3, Scalar.select, IntOp.ori, IntOp.andi, IntOp.xori]
      · simp [hk', h2, Scalar.select, IntOp.ori, IntOp.andi, IntOp.xori]

theorem coe_sum {ι : Type} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

theorem fall_pos (h : ℕ) : 0 < fall h := inv_pos.mpr (Real.sqrt_pos.mpr (by positivity))

/-- What a head leaves, over real queries, keys and sinks: the softmax in exponentials of the scaled products less the
    slope times the distance. -/
theorem spec_real (i : grid0.Coords) (x0 : Vec Ideal S128x1024 .f32) (x1 x2 x3 x4 : Vec Ideal S128x128 .f32)
    (x5 : Vec Ideal S16x128 .f32) (h : Fin 16) (d : Fin 64) (r : Fin 128) (q : Fin 64 → ℝ) (K : Fin 256 → Fin 64 → ℝ) (b : ℝ)
    (v : Fin 256 → EReal) (n : ℕ) (hn : (i 1).val = n)
    (hq : ∀ e : Fin 64, x0 (ix2 r ⟨h.val * 64 + e.val, by omega⟩) = ((q e : ℝ) : EReal))
    (hK : ∀ (k : Fin 256) (e : Fin 64), both x1 x3 k ⟨h.val / 8 * 64 + e.val, by omega⟩ = ((K k e : ℝ) : EReal))
    (hb : x5 (ix2 h r) = ((b : ℝ) : EReal))
    (hv : ∀ k : Fin 256, Seen n r.val k.val → both x2 x4 k ⟨h.val / 8 * 64 + d.val, by omega⟩ = v k) :
    spec i x0 x1 x2 x3 x4 x5 h d r =
      soft v (score (fun k : Fin 256 => Seen n r.val k.val)
        fun k => (∑ e, K k e * q e) * 8⁻¹ - fall h.val * away r.val k.val) ((b : ℝ) : EReal) := by
  rw [← soft2_eq _ _ _ _ _ hv]
  unfold spec
  rw [hb, unit_eq, ← EReal.coe_mul]
  congr 1
  refine funext fun k => ?_
  rw [Finset.sum_congr rfl fun e _ => show _ = ((K k e * (q e * (8⁻¹ * c2)) : ℝ) : EReal) by
    rw [hK, hq, scale_eq, ← EReal.coe_mul, ← EReal.coe_mul], coe_sum, slope_eq, dist_eq, hn]
  unfold score
  by_cases hs : Seen n r.val k.val
  · rw [if_pos hs, if_pos hs, ← EReal.coe_mul, ← EReal.coe_sub]
    congr 1
    beta_reduce
    rw [sub_mul, Finset.sum_mul, Finset.sum_mul]
    congr 1
    · exact Finset.sum_congr rfl fun e _ => by ring
    · ring
  · rw [if_neg hs, if_neg hs, EReal.coe_mul_top_of_pos (mul_pos (fall_pos _) c2_pos), sub_eq_add_neg, EReal.neg_top, EReal.add_bot]

end Cert.SwaIdeal.Heads

end
-- ==== Proof.SwaRefRead.lean ====
/-
  The reference's attention at an index, layer by layer.
-/
module

public import proofs.«01_k».proof.Proof.SwaScore
public import proofs.«01_k».proof.Proof.Gen.SwaRefIdeal.Read

@[expose] public section

set_option maxRecDepth 16384

noncomputable section

namespace Cert.SwaRefIdeal.Heads

open Cert.SwaRefIdeal Cert.SwaRefIdeal.Read Cert.SwaMath
open Idealize.ShloMosaic Idealize.ShloMosaic.TcCoe Idealize.SL.Sem

variable (X : FVec Ideal S16384x9728 .f32) (Z : FVec Ideal S16 .f32)

theorem out_at (R : Fin 16384) (C : Fin 1024) : val_main_v97 (F := Ideal) X Z (ix2 R C) =
    val_main_v94 (F := Ideal) X Z (ix6 ⟨R.val / 4096, by omega⟩ ⟨R.val / 128 % 32, by omega⟩ ⟨C.val / 512, by omega⟩
      ⟨C.val % 64, by omega⟩ ⟨C.val / 64 % 8, by omega⟩ ⟨R.val % 128, by omega⟩) := by
  pointwise [val_main_v97, val_main_v96, val_main_v95]

section
variable (b : Fin 4) (n : Fin 32) (r : Fin 128) (w : Fin 2) (g : Fin 8)

theorem weighted_at (d : Fin 64) : val_main_v94 (F := Ideal) X Z (ix6 b n w d g r) =
    ∑ j : Fin 256, val_main_v16 (F := Ideal) X (ix5 b n j w d) * val_main_v93 (F := Ideal) X Z (ix6 b n w g r j) := by
  pointwise [val_main_v94]

theorem prob_at (j : Fin 256) : val_main_v93 (F := Ideal) X Z (ix6 b n w g r j) =
    Ideal.div (Ideal.exp (val_main_v76 (F := Ideal) X (ix6 b n w g r j) - val_main_v82 (F := Ideal) X Z (ix6 b n w g r 0)))
      (val_main_v86 (F := Ideal) X Z (ix5 b n w g r) +
        Ideal.exp (val_main_v78 (F := Ideal) Z (ix6 0 0 w g 0 0) - val_main_v82 (F := Ideal) X Z (ix6 b n w g r 0))) := by
  pointwise [val_main_v93, val_main_v92, val_main_v91, val_main_v90, val_main_v89, val_main_v88, val_main_v87, val_main_v85, val_main_v84, val_main_v83]

theorem power_at (j : Fin 256) : val_main_v85 (F := Ideal) X Z (ix6 b n w g r j) =
    Ideal.exp (val_main_v76 (F := Ideal) X (ix6 b n w g r j) - val_main_v82 (F := Ideal) X Z (ix6 b n w g r 0)) := by
  pointwise [val_main_v85, val_main_v84, val_main_v83]

theorem sink_at : val_main_v78 (F := Ideal) Z (ix6 0 0 w g 0 0) = Z (ix1 ⟨w.val * 8 + g.val, by omega⟩) := by
  pointwise [val_main_v78, val_main_v77]

theorem reduces5 : S4x32x2x8x128x256.Reduces [5] S4x32x2x8x128 := by decide

theorem lift5 (j : Fin 256) : reduces5.lift (ix5 b n w g r) j = ix6 b n w g r j :=
  funext fun a => Fin.ext (by match a with | ⟨0, _⟩ => rfl | ⟨1, _⟩ => rfl | ⟨2, _⟩ => rfl | ⟨3, _⟩ => rfl | ⟨4, _⟩ => rfl | ⟨5, _⟩ => rfl)

theorem fold_at : val_main_v79 (F := Ideal) X (ix5 b n w g r) =
    Finset.fold max ⊥ (fun j : Fin 256 => val_main_v76 (F := Ideal) X (ix6 b n w g r j)) Finset.univ := by
  unfold val_main_v79
  generalize val_main_v76 (F := Ideal) X = y
  pointwise [val_main_cst_11]
  rw [Cert.SwaIdeal.Heads.negInf, Shape.ReducesTo.drop_eq_drop _ reduces5]
  refine (reduces5.fold_filter_drop_single max ⊥ y (ix5 b n w g r)).trans ?_
  congr 1
  exact funext fun j => congrArg y (lift5 b n r w g j)

theorem fold_row : val_main_v80 (F := Ideal) X (ix6 b n w g r 0) = val_main_v79 (F := Ideal) X (ix5 b n w g r) := by
  rw [val_main_v80_apply]
  generalize val_main_v79 (F := Ideal) X = y
  exact congrArg y (funext fun a => Fin.ext (by match a with | ⟨0, _⟩ => rfl | ⟨1, _⟩ => rfl | ⟨2, _⟩ => rfl | ⟨3, _⟩ => rfl | ⟨4, _⟩ => rfl))

theorem sink_row : val_main_v81 (F := Ideal) Z (ix6 b n w g r 0) = val_main_v78 (F := Ideal) Z (ix6 0 0 w g 0 0) := by
  pointwise [val_main_v81]

theorem top_at : val_main_v82 (F := Ideal) X Z (ix6 b n w g r 0) =
    top (fun j : Fin 256 => val_main_v76 (F := Ideal) X (ix6 b n w g r j)) (Z (ix1 ⟨w.val * 8 + g.val, by omega⟩)) := by
  rw [val_main_v82_apply, fold_row, fold_at, sink_row, sink_at]
  rfl

theorem sum_at : val_main_v86 (F := Ideal) X Z (ix5 b n w g r) =
    ∑ j : Fin 256, val_main_v85 (F := Ideal) X Z (ix6 b n w g r j) := by
  rw [val_main_v86_apply]
  generalize val_main_v85 (F := Ideal) X Z = y
  rw [show (val_main_cst_12 (F := Ideal)) (Shape.Idx.first Gen.h_S_) = 0 by pointwise [val_main_cst_12], zero_add]
  exact Finset.sum_congr rfl fun j _ => congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The reference at a lane of a head is the softmax in exponentials of its masked scores. -/
theorem soft_at (d : Fin 64) : val_main_v94 (F := Ideal) X Z (ix6 b n w d g r) =
    soft (fun j : Fin 256 => val_main_v16 (F := Ideal) X (ix5 b n j w d))
      (fun j : Fin 256 => val_main_v76 (F := Ideal) X (ix6 b n w g r j)) (Z (ix1 ⟨w.val * 8 + g.val, by omega⟩)) := by
  rw [weighted_at]
  simp only [prob_at, sum_at, power_at, top_at, sink_at]
  rfl

end

end Cert.SwaRefIdeal.Heads

end
-- ==== Proof.SwaRefScore.lean ====
/-
  The reference's masked scores, weights and slopes over real queries and keys.
-/
module

public import proofs.«01_k».proof.Proof.SwaRefRead

@[expose] public section

set_option maxRecDepth 16384

noncomputable section

namespace Cert.SwaRefIdeal.Heads

open Cert.SwaRefIdeal Cert.SwaRefIdeal.Read Cert.SwaMath
open Cert.SwaIdeal.Heads (Seen away fall coe_sum negInf)
open Idealize.ShloMosaic Idealize.ShloMosaic.TcCoe Idealize.SL.Sem

variable (X : FVec Ideal S16384x9728 .f32) (Z : FVec Ideal S16 .f32)

/-- The place in the reference's keys of a key of the kernel: the reference has the block before first. -/
def place : Fin 256 ≃ Fin 256 where
  toFun k := ⟨(k.val + 128) % 256, by omega⟩
  invFun k := ⟨(k.val + 128) % 256, by omega⟩
  left_inv k := Fin.ext (by simp only []; omega)
  right_inv k := Fin.ext (by simp only []; omega)

theorem word_int (a b c : ℕ) (ha : a < 2 ^ 20) (hb : b < 2 ^ 20) (hc : c < 2 ^ 20) :
    (IntOp.addi (IntOp.subi (BitVec.ofNat 32 a) (BitVec.ofNat 32 b)) (BitVec.ofNat 32 c)).toInt = (a : ℤ) - b + c := by
  have t : ∀ x : ℕ, x < 2 ^ 20 → (BitVec.ofNat 32 x).toInt = (x : ℤ) := fun x hx => by
    rw [BitVec.toInt_eq_toNat_of_lt (by simp only [BitVec.toNat_ofNat]; omega), BitVec.toNat_ofNat,
      Nat.mod_eq_of_lt (by omega)]
  simp only [IntOp.addi, IntOp.subi, BitVec.toInt_add, BitVec.toInt_sub, t a ha, t b hb, t c hc]
  simp only [Int.bmod_def]
  omega

theorem away_at (r : Fin 128) (j : Fin 256) : val_main_v29 (F := Ideal) (ix2 r j) =
    IntOp.addi (IntOp.subi (BitVec.ofNat 32 r.val) (BitVec.ofNat 32 j.val)) (BitVec.ofNat 32 128) := by
  pointwise [val_main_v29, val_main_v28, val_main_v27, val_main_v26, val_main_v25, val_main_v24, val_main_v23, val_main_v22, val_main_v21, val_main_c]

theorem seen_at (n : Fin 32) (r : Fin 128) (j : Fin 256) : val_main_v52 (F := Ideal) (ix3 n r j) =
    IntOp.andi (IntOp.andi (IntOp.cmpi .sge (val_main_v29 (F := Ideal) (ix2 r j)) 0#32)
        (IntOp.cmpi .slt (val_main_v29 (F := Ideal) (ix2 r j)) 128#32))
      (IntOp.cmpi .sge (IntOp.addi (IntOp.subi (IntOp.muli (BitVec.ofNat 32 n.val) 128#32) 128#32) (BitVec.ofNat 32 j.val)) 0#32) := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_1, val_main_c_2, val_main_c_3, val_main_c_4, val_main_c_5]

theorem cmp_sge (a : BitVec 32) (z : ℤ) (h : a.toInt = z) : IntOp.cmpi .sge a 0#32 = if 0 ≤ z then 1#1 else 0#1 := by
  show BitVec.ofBool (BitVec.sle 0#32 a) = _
  rw [BitVec.sle, h]
  by_cases hz : 0 ≤ z <;> simp [hz]

theorem cmp_slt (a : BitVec 32) (z : ℤ) (h : a.toInt = z) : IntOp.cmpi .slt a 128#32 = if z < 128 then 1#1 else 0#1 := by
  show BitVec.ofBool (BitVec.slt a 128#32) = _
  rw [BitVec.slt, h]
  by_cases hz : z < 128 <;> simp [hz]

theorem word_mul (n : ℕ) (hn : n < 32) : IntOp.muli (BitVec.ofNat 32 n) 128#32 = BitVec.ofNat 32 (n * 128) := by
  refine BitVec.eq_of_toNat_eq ?_
  simp only [IntOp.muli, BitVec.toNat_mul, BitVec.toNat_ofNat]
  omega

theorem seen_bit (n : Fin 32) (r : Fin 128) (k : Fin 256) : val_main_v52 (F := Ideal) (ix3 n r (place k)) =
    if Seen n.val r.val k.val then 1#1 else 0#1 := by
  have hr := r.isLt
  have hk := k.isLt
  have hn := n.isLt
  have hp : (place k).val = (k.val + 128) % 256 := rfl
  rw [seen_at, away_at, cmp_sge _ _ (word_int _ _ _ (by omega) (by omega) (by omega)),
    cmp_slt _ _ (word_int _ _ _ (by omega) (by omega) (by omega)), word_mul _ hn,
    cmp_sge _ _ (word_int (n.val * 128) 128 (place k).val (by omega) (by omega) (by omega)), hp]
  unfold Seen
  by_cases hk' : k.val < 128
  · rw [if_pos (show (0 : ℤ) ≤ (n.val * 128 : ℕ) - (128 : ℕ) + ((k.val + 128) % 256 : ℕ) by omega)]
    rw [if_pos (show (r.val : ℤ) - ((k.val + 128) % 256 : ℕ) + (128 : ℕ) < 128 by omega)]
    simp only [if_pos hk']
    by_cases hs : k.val ≤ r.val
    · rw [if_pos (show (0 : ℤ) ≤ (r.val : ℤ) - ((k.val + 128) % 256 : ℕ) + (128 : ℕ) by omega), if_pos hs]; rfl
    · rw [if_neg (show ¬ (0 : ℤ) ≤ (r.val : ℤ) - ((k.val + 128) % 256 : ℕ) + (128 : ℕ) by omega), if_neg hs]; rfl
  · rw [if_pos (show (0 : ℤ) ≤ (r.val : ℤ) - ((k.val + 128) % 256 : ℕ) + (128 : ℕ) by omega)]
    simp only [if_neg hk']
    by_cases h1 : 0 < n.val
    · rw [if_pos (show (0 : ℤ) ≤ (n.val * 128 : ℕ) - (128 : ℕ) + ((k.val + 128) % 256 : ℕ) by omega)]
      by_cases h2 : r.val + 128 < k.val
      · rw [if_pos (show (r.val : ℤ) - ((k.val + 128) % 256 : ℕ) + (128 : ℕ) < 128 by omega), if_pos ⟨h1, h2⟩]; rfl
      · rw [if_neg (show ¬ (r.val : ℤ) - ((k.val + 128) % 256 : ℕ) + (128 : ℕ) < 128 by omega), if_neg (show ¬ (0 < n.val ∧ r.val + 128 < k.val) from fun h => h2 h.2)]; rfl
    · rw [if_neg (show ¬ (0 : ℤ) ≤ (n.val * 128 : ℕ) - (128 : ℕ) + ((k.val + 128) % 256 : ℕ) by omega), if_neg (show ¬ (0 < n.val ∧ r.val + 128 < k.val) from fun h => h1 h.1)]
      split_ifs <;> rfl

theorem away_real (r : Fin 128) (k : Fin 256) :
    (FloatOps.sitofp .f32 (val_main_v29 (F := Ideal) (ix2 r (place k))) : Ideal .f32) = ((away r.val k.val : ℝ) : EReal) := by
  rw [away_at]
  show (((IntOp.addi _ _).toInt : ℝ) : EReal) = _
  have hr := r.isLt
  have hk := k.isLt
  have hp : (place k).val = (k.val + 128) % 256 := rfl
  rw [word_int _ _ _ (by omega) (by omega) (by omega), hp]
  congr 1
  unfold away
  by_cases hk' : k.val < 128
  · rw [if_pos hk', show (k.val + 128) % 256 = k.val + 128 by omega]; push_cast; ring
  · rw [if_neg hk', show (k.val + 128) % 256 = k.val - 128 by omega]
    rw [Nat.cast_sub (by omega)]; push_cast; ring

theorem slope_at (h : Fin 16) : val_main_v64 (F := Ideal) (ix1 h) = ((fall h.val : ℝ) : EReal) := by
  have e : val_main_v64 (F := Ideal) (ix1 h) = Ideal.exp (Ideal.log (Ideal.ofBits .f32 0x40000000#32) *
      Ideal.div (Ideal.ofBits .f32 0xC1000000#32 * (1 + (FloatOps.sitofp .f32 (BitVec.ofNat 32 h.val) : Ideal .f32)))
        (Ideal.ofBits .f32 0x41800000#32)) := by
    pointwise [val_main_v64, val_main_v63, val_main_v62, val_main_v61, val_main_v60, val_main_v59, val_main_v58, val_main_v57, val_main_v56, val_main_v55, val_main_v54, val_main_v53, val_main_cst_6, val_main_cst_7, val_main_cst_8, val_main_cst_9]
    rfl
  have e2 : Ideal.ofBits .f32 0x40000000#32 = ((2 : ℝ) : EReal) := by
    simp [Ideal.ofBits, Ideal.ieee, -EReal.coe_mul]; norm_num
  have e8 : Ideal.ofBits .f32 0xC1000000#32 = ((-8 : ℝ) : EReal) := by
    simp [Ideal.ofBits, Ideal.ieee, -EReal.coe_mul]; norm_num
  have e16 : Ideal.ofBits .f32 0x41800000#32 = ((16 : ℝ) : EReal) := by
    simp [Ideal.ofBits, Ideal.ieee, -EReal.coe_mul]; norm_num
  have el : Ideal.log ((2 : ℝ) : EReal) = ((Real.log 2 : ℝ) : EReal) := by
    show (if (2 : ℝ) ≤ 0 then (⊥ : EReal) else _) = _
    rw [if_neg (by norm_num)]
  rw [e, e2, e8, e16, el, Cert.SwaIdeal.Heads.word_real _ (by omega), ← EReal.coe_one, ← EReal.coe_add, ← EReal.coe_mul,
    Ideal.div, if_neg (by exact_mod_cast (by norm_num : (16 : ℝ) ≠ 0)), ← EReal.coe_inv, ← EReal.coe_mul, ← EReal.coe_mul]
  show ((Real.exp _ : ℝ) : EReal) = _
  congr 1
  unfold fall
  rw [Real.sqrt_eq_rpow, ← Real.rpow_natCast, ← Real.rpow_mul (by norm_num), ← Real.rpow_neg (by norm_num),
    Real.rpow_def_of_pos (by norm_num)]
  congr 1
  push_cast
  ring

end Cert.SwaRefIdeal.Heads

end
-- ==== Proof.SwaRefAttn.lean ====
/-
  The reference's attention over real queries, keys and sinks: at a lane of a head, the softmax of the real scores of the
  keys that the query sees.
-/
module

public import proofs.«01_k».proof.Proof.SwaRefScore

@[expose] public section

set_option maxRecDepth 16384

noncomputable section

namespace Cert.SwaRefIdeal.Heads

open Cert.SwaRefIdeal Cert.SwaRefIdeal.Read Cert.SwaMath
open Cert.SwaIdeal.Heads (Seen away fall coe_sum negInf)
open Idealize.ShloMosaic Idealize.ShloMosaic.TcCoe Idealize.SL.Sem

variable (X : FVec Ideal S16384x9728 .f32) (Z : FVec Ideal S16 .f32)

/-- The row of a key: of this block, or of the block before it. -/
def row (b : Fin 4) (n : Fin 32) (k : Fin 256) : Fin 16384 :=
  ⟨if k.val < 128 then b.val * 4096 + (n.val * 128 + k.val) else b.val * 4096 + ((n.val - 1) * 128 + (k.val - 128)),
    by split_ifs <;> omega⟩

section
variable (b : Fin 4) (n : Fin 32) (r : Fin 128) (w : Fin 2) (g : Fin 8)

theorem keys_at (j : Fin 128) (d : Fin 64) : val_main_v7 (F := Ideal) X (ix5 b n j w d) =
    X (ix2 ⟨b.val * 4096 + (n.val * 128 + j.val), by omega⟩ ⟨9216 + (w.val * 64 + d.val), by omega⟩) := by
  pointwise [val_main_v7, val_main_v3, val_main_v2]

theorem values_at (j : Fin 128) (d : Fin 64) : val_main_v8 (F := Ideal) X (ix5 b n j w d) =
    X (ix2 ⟨b.val * 4096 + (n.val * 128 + j.val), by omega⟩ ⟨9344 + (w.val * 64 + d.val), by omega⟩) := by
  pointwise [val_main_v8, val_main_v5, val_main_v4]

theorem queries_at (d : Fin 64) : val_main_v6 (F := Ideal) X (ix6 b n r w g d) =
    X (ix2 ⟨b.val * 4096 + (n.val * 128 + r.val), by omega⟩ ⟨8192 + ((w.val * 8 + g.val) * 64 + d.val), by omega⟩) := by
  pointwise [val_main_v6, val_main_v1, val_main_v0]

theorem keys2_at (j : Fin 256) (d : Fin 64) : val_main_v13 (F := Ideal) X (ix5 b n j w d) =
    if h : j.val < 128 then (if h' : n.val < 1 then 0 else
      val_main_v7 (F := Ideal) X (ix5 b ⟨n.val - 1, by omega⟩ ⟨j.val, h⟩ w d))
    else val_main_v7 (F := Ideal) X (ix5 b n ⟨j.val - 128, by omega⟩ w d) := by
  pointwise [val_main_v13, val_main_v12, val_main_v11, val_main_v10, val_main_v9, val_main_cst]

theorem values2_at (j : Fin 256) (d : Fin 64) : val_main_v16 (F := Ideal) X (ix5 b n j w d) =
    if h : j.val < 128 then (if h' : n.val < 1 then 0 else
      val_main_v8 (F := Ideal) X (ix5 b ⟨n.val - 1, by omega⟩ ⟨j.val, h⟩ w d))
    else val_main_v8 (F := Ideal) X (ix5 b n ⟨j.val - 128, by omega⟩ w d) := by
  pointwise [val_main_v16, val_main_v15, val_main_v14, val_main_v10, val_main_v9, val_main_cst]

theorem key_at (k : Fin 256) (hs : Seen n.val r.val k.val) (d : Fin 64) :
    val_main_v13 (F := Ideal) X (ix5 b n (place k) w d) = X (ix2 (row b n k) ⟨9216 + (w.val * 64 + d.val), by omega⟩) := by
  have hp : (place k).val = (k.val + 128) % 256 := rfl
  have hk := k.isLt
  rw [keys2_at]
  unfold Seen at hs
  by_cases hk' : k.val < 128
  · rw [dif_neg (by omega), keys_at]
    exact congrArg (fun R => X (ix2 R _)) (Fin.ext (by simp only [row, if_pos hk', hp]; omega))
  · rw [if_neg hk'] at hs
    rw [dif_pos (show (place k).val < 128 by omega), dif_neg (by omega), keys_at]
    exact congrArg (fun R => X (ix2 R _)) (Fin.ext (by simp only [row, if_neg hk', hp]; omega))

theorem value_at (k : Fin 256) (hs : Seen n.val r.val k.val) (d : Fin 64) :
    val_main_v16 (F := Ideal) X (ix5 b n (place k) w d) = X (ix2 (row b n k) ⟨9344 + (w.val * 64 + d.val), by omega⟩) := by
  have hp : (place k).val = (k.val + 128) % 256 := rfl
  have hk := k.isLt
  rw [values2_at]
  unfold Seen at hs
  by_cases hk' : k.val < 128
  · rw [dif_neg (by omega), values_at]
    exact congrArg (fun R => X (ix2 R _)) (Fin.ext (by simp only [row, if_pos hk', hp]; omega))
  · rw [if_neg hk'] at hs
    rw [dif_pos (show (place k).val < 128 by omega), dif_neg (by omega), values_at]
    exact congrArg (fun R => X (ix2 R _)) (Fin.ext (by simp only [row, if_neg hk', hp]; omega))

theorem score_at (j : Fin 256) : val_main_v74 (F := Ideal) X (ix6 b n w g r j) =
    (∑ e : Fin 64, val_main_v13 (F := Ideal) X (ix5 b n j w e) * val_main_v6 (F := Ideal) X (ix6 b n r w g e)) *
      Ideal.ofBits .f32 0x3E000000#32 - val_main_v64 (F := Ideal) (ix1 ⟨w.val * 8 + g.val, by omega⟩) *
        (FloatOps.sitofp .f32 (val_main_v29 (F := Ideal) (ix2 r j)) : Ideal .f32) := by
  pointwise [val_main_v74, val_main_v73, val_main_v72, val_main_v71, val_main_v70, val_main_v69, val_main_v68, val_main_v67, val_main_v66, val_main_v65, val_main_v20, val_main_v19, val_main_cst_0, val_main_v18, val_main_v17]

theorem masked_at (j : Fin 256) : val_main_v76 (F := Ideal) X (ix6 b n w g r j) =
    Scalar.select (val_main_v52 (F := Ideal) (ix3 n r j)) (val_main_v74 (F := Ideal) X (ix6 b n w g r j)) (⊥ : EReal) := by
  pointwise [val_main_v76, val_main_call0_v2, val_main_call0_v1, val_main_call0_v0, val_main_cst_10, val_main_v75]
  rw [← negInf]
  rfl

theorem masked_real (q : Fin 64 → ℝ) (K : Fin 256 → Fin 64 → ℝ)
    (hq : ∀ e : Fin 64, X (ix2 ⟨b.val * 4096 + (n.val * 128 + r.val), by omega⟩ ⟨8192 + ((w.val * 8 + g.val) * 64 + e.val), by omega⟩) = ((q e : ℝ) : EReal))
    (hK : ∀ (k : Fin 256) (e : Fin 64), X (ix2 (row b n k) ⟨9216 + (w.val * 64 + e.val), by omega⟩) = ((K k e : ℝ) : EReal))
    (k : Fin 256) : val_main_v76 (F := Ideal) X (ix6 b n w g r (place k)) =
      score (fun k : Fin 256 => Seen n.val r.val k.val)
        (fun k => (∑ e, K k e * q e) * 8⁻¹ - fall (w.val * 8 + g.val) * away r.val k.val) k := by
  rw [masked_at, seen_bit]
  unfold score
  by_cases hs : Seen n.val r.val k.val
  · rw [if_pos hs, if_pos hs]
    show val_main_v74 (F := Ideal) X _ = _
    have e8 : Ideal.ofBits .f32 0x3E000000#32 = ((8⁻¹ : ℝ) : EReal) := by
      simp [Ideal.ofBits, Ideal.ieee, -EReal.coe_mul]; norm_num
    rw [score_at, Finset.sum_congr rfl fun e _ => show _ = ((K k e * q e : ℝ) : EReal) by
      rw [key_at X b n r w k hs, queries_at, hK, hq, ← EReal.coe_mul], coe_sum, slope_at, away_real, e8,
      ← EReal.coe_mul, ← EReal.coe_mul, ← EReal.coe_sub]
  · rw [if_neg hs, if_neg hs]
    rfl

/-- The reference at a lane of a head, over real queries, keys and sinks. -/
theorem attn_real (d : Fin 64) (q : Fin 64 → ℝ) (K : Fin 256 → Fin 64 → ℝ) (s : ℝ)
    (hq : ∀ e : Fin 64, X (ix2 ⟨b.val * 4096 + (n.val * 128 + r.val), by omega⟩ ⟨8192 + ((w.val * 8 + g.val) * 64 + e.val), by omega⟩) = ((q e : ℝ) : EReal))
    (hK : ∀ (k : Fin 256) (e : Fin 64), X (ix2 (row b n k) ⟨9216 + (w.val * 64 + e.val), by omega⟩) = ((K k e : ℝ) : EReal))
    (hs : Z (ix1 ⟨w.val * 8 + g.val, by omega⟩) = ((s : ℝ) : EReal)) :
    val_main_v94 (F := Ideal) X Z (ix6 b n w d g r) =
      soft (fun k : Fin 256 => val_main_v16 (F := Ideal) X (ix5 b n (place k) w d))
        (score (fun k : Fin 256 => Seen n.val r.val k.val)
          fun k => (∑ e, K k e * q e) * 8⁻¹ - fall (w.val * 8 + g.val) * away r.val k.val) ((s : ℝ) : EReal) := by
  rw [soft_at, hs, ← soft_comp place]
  congr 1
  exact funext fun k => masked_real X b n r w g q K hq hK k

end

end Cert.SwaRefIdeal.Heads

end
-- ==== Proof.SwaValue.lean ====
/-
  The attention: what the kernel's result array ends holding is the reference's result, over finite queries, keys and
  sinks.
-/
module

public import proofs.«01_k».proof.Proof.SwaRefAttn

@[expose] public section

set_option maxRecDepth 16384

noncomputable section

open Idealize.ShloMosaic Idealize.ShloMosaic.TcCoe Idealize.SL.Sem
open Idealize.ShloMosaic.Pipeline (Dat)

namespace Cert.SwaIdeal.Product

open Cert.SwaIdeal Cert.SwaIdeal.Gen Cert.SwaRefIdeal.Read Cert.SwaMath
open Cert.SwaIdeal.Heads (both spec Seen away fall spec_real block_spec)
open Cert.SwaRefIdeal.Heads (row place attn_real value_at out_at)

variable (m : (ℓ : Loc nD τ sig) → Buf (Elt Ideal) ℓ)

/-- The reference's result, of the arguments. -/
abbrev ref (X : FVec Ideal S16384x9728 .f32) (Z : FVec Ideal S16 .f32) : FVec Ideal S16384x1024 .bf16 :=
  val_main_v97 (F := Ideal) X Z

/-- The windows' block indices at a grid point. -/
theorem idx : ∀ t : Fin cfg0.N, win0_0.index t = ![t.val, 8] ∧ win0_1.index t = ![t.val, 72] ∧ win0_2.index t = ![t.val, 73]
    ∧ win0_3.index t = ![t.val / 32 * 32 + (t.val % 32 - 1), 72] ∧ win0_4.index t = ![t.val / 32 * 32 + (t.val % 32 - 1), 73]
    ∧ win0_5.index t = ![0, 0] ∧ win0_6.index t = ![t.val, 0] :=
  (by decide +kernel : ∀ t : Fin grid0.N, _)

/-- The place of the block in its sequence. -/
theorem coord : ∀ t : Fin cfg0.N, ((grid0.coords t) 1).val = t.val % 32 :=
  (by decide +kernel : ∀ t : Fin grid0.N, _)

theorem points (t : Fin cfg0.N) : t.val < 128 := t.isLt

/-- The queries of a block. -/
def qs (c : Dev nD) (t : Fin cfg0.N) : Vec Ideal S128x1024 .f32 := fun j =>
  m ((c : Thread nD τ).loc main_arg0) (ix2 ⟨t.val * 128 + (j 0).val, by have := (j 0).isLt; have := points t; change _ < 128 at *; omega⟩
    ⟨8192 + (j 1).val, by have := (j 1).isLt; change _ < 1024 at this; omega⟩)

/-- A block of 128 columns, of this block's rows, and of the rows before. -/
def cols (o : Fin 74) (c : Dev nD) (t : Fin cfg0.N) : Vec Ideal S128x128 .f32 := fun j =>
  m ((c : Thread nD τ).loc main_arg0) (ix2 ⟨t.val * 128 + (j 0).val, by have := (j 0).isLt; have := points t; change _ < 128 at *; omega⟩
    ⟨o.val * 128 + (j 1).val, by have := (j 1).isLt; change _ < 128 at this; omega⟩)
def cols' (o : Fin 74) (c : Dev nD) (t : Fin cfg0.N) : Vec Ideal S128x128 .f32 := fun j =>
  m ((c : Thread nD τ).loc main_arg0) (ix2 ⟨(t.val / 32 * 32 + (t.val % 32 - 1)) * 128 + (j 0).val, by have := (j 0).isLt; have := points t; change _ < 128 at *; omega⟩
    ⟨o.val * 128 + (j 1).val, by have := (j 1).isLt; change _ < 128 at this; omega⟩)

theorem block0 (c : Dev nD) (t : Fin cfg0.N) (j : S128x1024.Idx) : X0_0 m c t j = qs m c t j := by
  unfold X0_0 Pipeline.Window.fill
  rw [dif_pos (moved0_0 t _)]
  blk_point [iblk, V, qs, idx t]

theorem block1 (c : Dev nD) (t : Fin cfg0.N) (j : S128x128.Idx) : iblk m c 1 t j = cols m 72 c t j := by
  blk_point [iblk, V, cols, idx t]

theorem block2 (c : Dev nD) (t : Fin cfg0.N) (j : S128x128.Idx) : iblk m c 2 t j = cols m 73 c t j := by
  blk_point [iblk, V, cols, idx t]

theorem block3 (c : Dev nD) (t : Fin cfg0.N) (j : S128x128.Idx) : iblk m c 3 t j = cols' m 72 c t j := by
  blk_point [iblk, V, cols', idx t]

theorem block4 (c : Dev nD) (t : Fin cfg0.N) (j : S128x128.Idx) : iblk m c 4 t j = cols' m 73 c t j := by
  blk_point [iblk, V, cols', idx t]

/-- The sinks, one row for each head. -/
def sinks (Z : FVec Ideal S16 .f32) : Vec Ideal S16x128 .f32 := fun j => Z (ix1 (j 0))

theorem spread (Z : FVec Ideal S16 .f32) (j : S16x128.Idx) :
    broadcastInDim S16x128 ![0, 1] bcast_S16x1_S16x128_0_1 (broadcastInDim S16x1 ![0] bcast_S16_S16x1_0 Z) j = sinks Z j := by
  pointwise [sinks]

theorem sinks_entry (c : Dev nD) (j : S16x128.Idx) : V m c main_v1 j = sinks (m ((c : Thread nD τ).loc main_arg1)) j := by
  have h : V m c main_v1 = broadcastInDim S16x128 ![0, 1] bcast_S16x1_S16x128_0_1
      (broadcastInDim S16x1 ![0] bcast_S16_S16x1_0 (m ((c : Thread nD τ).loc main_arg1))) := by
    entry_read
    rfl
  exact (congrFun h j).trans (spread _ j)

theorem block5 (c : Dev nD) (t : Fin cfg0.N) (j : S16x128.Idx) :
    iblk m c 5 t j = sinks (m ((c : Thread nD τ).loc main_arg1)) j := by
  refine Eq.trans ?_ (sinks_entry m c j)
  blk_point [iblk, idx t]

/-- The queries, the keys and the sinks are finite. -/
def Finite (X : FVec Ideal S16384x9728 .f32) (Z : FVec Ideal S16 .f32) : Prop :=
  (∀ (R : Fin 16384) (C : Fin 9728), 8192 ≤ C.val → C.val < 9344 → ∃ a : ℝ, X (ix2 R C) = (a : EReal)) ∧
    ∀ h : Fin 16, ∃ a : ℝ, Z (ix1 h) = (a : EReal)

/-- A key of a block's 256 is the array's at the key's row. -/
theorem both_row (o : Fin 74) (c : Dev nD) (t : Fin cfg0.N) (k : Fin 256) (C : Fin 128) :
    both (cols m o c t) (cols' m o c t) k C = m ((c : Thread nD τ).loc main_arg0)
      (ix2 (row ⟨t.val / 32, by have := points t; omega⟩ ⟨t.val % 32, by omega⟩ k) ⟨o.val * 128 + C.val, by omega⟩) := by
  have ht := points t
  unfold both
  by_cases hk : k.val < 128
  · rw [dif_pos hk]
    refine congrArg (fun R => m ((c : Thread nD τ).loc main_arg0) (ix2 R _)) (Fin.ext ?_)
    simp only [row, if_pos hk]
    show t.val * 128 + k.val = _
    omega
  · rw [dif_neg hk]
    refine congrArg (fun R => m ((c : Thread nD τ).loc main_arg0) (ix2 R _)) (Fin.ext ?_)
    simp only [row, if_neg hk]
    show (t.val / 32 * 32 + (t.val % 32 - 1)) * 128 + (k.val - 128) = _
    omega

theorem ix2_eq {p q : ℕ} {a a' : Fin p} {b b' : Fin q} (ha : a.val = a'.val) (hb : b.val = b'.val) : ix2 a b = ix2 a' b' := by
  rw [Fin.ext ha, Fin.ext hb]

theorem ix6_eq {p q u v x z : ℕ} {a a' : Fin p} {b b' : Fin q} {c c' : Fin u} {d d' : Fin v} {e e' : Fin x} {f f' : Fin z}
    (ha : a.val = a'.val) (hb : b.val = b'.val) (hc : c.val = c'.val) (hd : d.val = d'.val) (he : e.val = e'.val)
    (hf : f.val = f'.val) : ix6 a b c d e f = ix6 a' b' c' d' e' f' := by
  rw [Fin.ext ha, Fin.ext hb, Fin.ext hc, Fin.ext hd, Fin.ext he, Fin.ext hf]

/-- What the body stores at an index of its block is the reference's result at the array's index. -/
theorem block_ref (c : Dev nD) (hf : Finite (m ((c : Thread nD τ).loc main_arg0)) (m ((c : Thread nD τ).loc main_arg1)))
    (t : Fin cfg0.N) (r : Fin 128) (C : Fin 1024) :
    Block.block (F := Ideal) (grid0.coords t) (X0_0 m c t) (iblk m c 1 t) (iblk m c 2 t) (iblk m c 3 t) (iblk m c 4 t) (iblk m c 5 t) (ix2 r C)
      = ref (m ((c : Thread nD τ).loc main_arg0)) (m ((c : Thread nD τ).loc main_arg1))
        (ix2 ⟨t.val * 128 + r.val, by have := points t; omega⟩ C) := by
  have ht := points t
  obtain ⟨hX, hZ⟩ := hf
  rw [show X0_0 m c t = qs m c t from funext fun j => block0 m c t j,
    show iblk m c 1 t = cols m 72 c t from funext fun j => block1 m c t j,
    show iblk m c 2 t = cols m 73 c t from funext fun j => block2 m c t j,
    show iblk m c 3 t = cols' m 72 c t from funext fun j => block3 m c t j,
    show iblk m c 4 t = cols' m 73 c t from funext fun j => block4 m c t j,
    show iblk m c 5 t = sinks (m ((c : Thread nD τ).loc main_arg1)) from funext fun j => block5 m c t j, block_spec]
  generalize hh : (⟨C.val / 64, by omega⟩ : Fin 16) = h
  generalize hd : (⟨C.val % 64, by omega⟩ : Fin 64) = d
  have hh' : C.val / 64 = h.val := congrArg Fin.val hh
  have hd' : C.val % 64 = d.val := congrArg Fin.val hd
  let b : Fin 4 := ⟨t.val / 32, by omega⟩
  let n : Fin 32 := ⟨t.val % 32, by omega⟩
  let w : Fin 2 := ⟨h.val / 8, by omega⟩
  let g : Fin 8 := ⟨h.val % 8, by omega⟩
  choose A hA using hX
  obtain ⟨s, hs⟩ := hZ h
  have hq : ∀ e : Fin 64, m ((c : Thread nD τ).loc main_arg0) (ix2 ⟨t.val * 128 + r.val, by omega⟩ ⟨8192 + (h.val * 64 + e.val), by omega⟩)
      = ((A ⟨t.val * 128 + r.val, by omega⟩ ⟨8192 + (h.val * 64 + e.val), by omega⟩ (by simp) (by simp only []; omega) : ℝ) : EReal) :=
    fun e => hA _ _ _ _
  have hK : ∀ (k : Fin 256) (e : Fin 64), m ((c : Thread nD τ).loc main_arg0) (ix2 (row b n k) ⟨9216 + (w.val * 64 + e.val), by omega⟩)
      = ((A (row b n k) ⟨9216 + (w.val * 64 + e.val), by omega⟩ (by simp only []; omega) (by simp only []; omega) : ℝ) : EReal) :=
    fun k e => hA _ _ _ _
  rw [spec_real (grid0.coords t) _ _ _ _ _ _ h d r
    (fun e : Fin 64 => A ⟨t.val * 128 + r.val, by omega⟩ ⟨8192 + (h.val * 64 + e.val), by omega⟩ (by simp) (by simp only []; omega))
    (fun k e => A (row b n k) ⟨9216 + (w.val * 64 + e.val), by omega⟩ (by simp only []; omega) (by simp only []; omega)) s
    (fun k => val_main_v16 (F := Ideal) (m ((c : Thread nD τ).loc main_arg0)) (ix5 b n (place k) w d)) n.val (coord t)
    hq (fun k e => (both_row m 72 c t k _).trans (hK k e)) hs
    (fun k hk => (both_row m 73 c t k _).trans (value_at _ b n r w k hk d).symm)]
  have hw : w.val * 8 + g.val = h.val := by show h.val / 8 * 8 + h.val % 8 = h.val; omega
  have hR : b.val * 4096 + (n.val * 128 + r.val) = t.val * 128 + r.val := by
    show t.val / 32 * 4096 + (t.val % 32 * 128 + r.val) = _
    omega
  have e := attn_real (m ((c : Thread nD τ).loc main_arg0)) (m ((c : Thread nD τ).loc main_arg1)) b n r w g d
    (fun e : Fin 64 => A ⟨t.val * 128 + r.val, by omega⟩ ⟨8192 + (h.val * 64 + e.val), by omega⟩ (by simp) (by simp only []; omega))
    (fun k e => A (row b n k) ⟨9216 + (w.val * 64 + e.val), by omega⟩ (by simp only []; omega) (by simp only []; omega)) s
    (fun e => Eq.trans (congrArg (m ((c : Thread nD τ).loc main_arg0)) (ix2_eq hR (by simp only []; rw [hw]))) (hq e))
    hK (Eq.trans (congrArg (fun i => m ((c : Thread nD τ).loc main_arg1) (ix1 i)) (Fin.ext hw)) hs)
  rw [hw] at e
  refine e.symm.trans ?_
  unfold ref
  rw [out_at]
  refine congrArg (val_main_v94 (F := Ideal) (m ((c : Thread nD τ).loc main_arg0)) (m ((c : Thread nD τ).loc main_arg1))) ?_
  refine ix6_eq ?_ ?_ ?_ ?_ ?_ ?_
  · show t.val / 32 = (t.val * 128 + r.val) / 4096
    omega
  · show t.val % 32 = (t.val * 128 + r.val) / 128 % 32
    omega
  · show h.val / 8 = C.val / 512
    omega
  · exact hd'.symm
  · show h.val % 8 = C.val / 64 % 8
    omega
  · show r.val = (t.val * 128 + r.val) % 128
    omega

/-- The same at an index of the block, the array's index being where the block is written. -/
theorem point (c : Dev nD) (hf : Finite (m ((c : Thread nD τ).loc main_arg0)) (m ((c : Thread nD τ).loc main_arg1)))
    (t : Fin cfg0.N) (y : S128x1024.Idx) :
    Block.block (F := Ideal) (grid0.coords t) (X0_0 m c t) (iblk m c 1 t) (iblk m c 2 t) (iblk m c 3 t) (iblk m c 4 t) (iblk m c 5 t) y
      = ref (m ((c : Thread nD τ).loc main_arg0)) (m ((c : Thread nD τ).loc main_arg1)) (((cfg0.win 6).blk t).view.emb y) := by
  idx_vars y
  rw [block_ref m c hf t]
  blk_point [idx t]

/-- The result array after the run. -/
theorem final (c : Dev nD) (hf : Finite (m ((c : Thread nD τ).loc main_arg0)) (m ((c : Thread nD τ).loc main_arg1))) :
    (dats m 0 c).arrAt 6 cfg0.N = ref (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  rw [Block.out_eq]
  exact point m c hf t y

end Cert.SwaIdeal.Product

end
-- ==== Proof.SwaPair.lean ====
/-
  The attention's pair: over finite queries, keys and sinks the kernel and the reference end with equal results.
-/
module

public import proofs.«01_k».proof.Defs
public import proofs.«01_k».proof.Proof.SwaValue

@[expose] public section

noncomputable section

open Idealize.ShloMosaic Idealize.ShloMosaic.TcCoe Idealize.SL.Sem

namespace Cert.Pairs

section
variable [Cert.Pre_swa_finite.Facts]

theorem below_top (x : Ideal .f32)
    (h : BitVec.ofBool (decide ((FloatOps.absf x : EReal) < Ideal.ofBits .f32 0x7F800000#32)) = 1#1) :
    ∃ a : ℝ, x = (a : EReal) := by
  rw [Cert.SwaIdeal.Heads.posInf] at h
  have h' : (FloatOps.absf x : EReal) < ⊤ := by
    by_contra hn
    rw [decide_eq_false hn] at h
    exact absurd h (by decide)
  have e : (FloatOps.absf x : EReal) = max x (-x) := rfl
  rw [e] at h'
  obtain ⟨h1, h2⟩ := max_lt_iff.mp h'
  refine ⟨EReal.toReal x, (EReal.coe_toReal h1.ne ?_).symm⟩
  rintro rfl
  exact absurd h2 (by simp)

theorem finite (X : FVec Ideal Cert.Pre_swa_finite.S16384x9728 .f32) (Z : FVec Ideal Cert.Pre_swa_finite.S16 .f32)
    (h1 : (Cert.Pre_swa_finite.fn (F := Ideal) X Z).1 = fun _ => 1#1) (h2 : (Cert.Pre_swa_finite.fn (F := Ideal) X Z).2 = fun _ => 1#1) :
    Cert.SwaIdeal.Product.Finite X Z := by
  constructor
  · intro R C hC hC'
    have e := congrFun h1 (ix2 R ⟨C.val - 8192, by omega⟩)
    pointwise [Cert.Pre_swa_finite.fn] at e
    have := below_top _ e
    rwa [show (⟨8192 + (C.val - 8192), by omega⟩ : Fin 9728) = C from Fin.ext (by simp only []; omega)] at this
  · intro h
    have e := congrFun h2 (ix1 h)
    pointwise [Cert.Pre_swa_finite.fn] at e
    exact below_top _ e
end

/-- The pair of `Swa`. -/
theorem pairSwa [Cert.Pre_swa_finite.Facts] : Cert.algebraic_SwaIdeal_SwaRefIdeal_pre_swa_finite := by
  intro m g m' g' hpre hagree
  have hf := fun c => finite _ _ (hpre c).1 (hpre c).2
  refine ⟨fun c => Cert.SwaIdeal.Product.ref (m ((c.tc : Thread Cert.SwaIdeal.nD Cert.SwaIdeal.τ).loc Cert.SwaIdeal.main_arg0)) (m ((c.tc : Thread Cert.SwaIdeal.nD Cert.SwaIdeal.τ).loc Cert.SwaIdeal.main_arg1)), ?_, ?_⟩
  · exact (θ_run _ _ _).mono (fun r h c => ⟨(h c).1.trans (Cert.SwaIdeal.Product.final m c (hf c)), (h c).2⟩)
      (Cert.SwaIdeal.Value.run_blocks m g)
  · refine (θ_run _ _ _).mono (fun r h c => ⟨(h c).1.trans ?_, (h c).2⟩) (Cert.SwaRefIdeal.Value.run m' g')
    obtain ⟨h0, h1⟩ := hagree c
    refine (Cert.SwaRefIdeal.Read.val_main_v97_eq (F := Ideal) m' c).trans ?_
    rw [h0, h1]

end Cert.Pairs

end
-- ==== Proof.LnInValue.lean ====
/-
  The first layer norm: what the kernel's two result arrays end holding are the reference's two results.
-/
module

public import proofs.«01_k».proof.Defs
public import proofs.«01_k».proof.Proof.SwaPair
public import proofs.«01_k».proof.Proof.Gen.LnInIdeal.Value
public import proofs.«01_k».proof.Proof.Gen.LnInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LnInIdeal.Product

open Cert.LnInIdeal Cert.LnInIdeal.Gen Cert.LnInRefIdeal.Read

variable (m : (ℓ : Loc nD τ sig) → Buf (Elt Ideal) ℓ)

/-- The reference's first result, of the arguments. -/
abbrev ref (X : FVec Ideal S16384x4096 .f32) (G B : FVec Ideal S4096 .f32) :
    FVec Ideal S16384x4096 .f32 :=
  val_main_v23 (F := Ideal) X G B

/-- The reference's second result, of the arguments. -/
abbrev ref2 (X : FVec Ideal S16384x4096 .f32) (G B : FVec Ideal S4096 .f32) :
    FVec Ideal S16384x4096 .bf16 :=
  val_main_v24 (F := Ideal) X G B

/-- The windows' block indices at a grid point. -/
theorem idx : ∀ t : Fin cfg0.N, win0_0.index t = ![t.val, 0]
    ∧ win0_1.index t = ![0, 0] ∧ win0_2.index t = ![0, 0]
    ∧ win0_3.index t = ![t.val, 0] ∧ win0_4.index t = ![t.val, 0] :=
  (by decide +kernel : ∀ t : Fin grid0.N, _)

/-- A vector of 4096 entries as one row. -/
def row (G : FVec Ideal S4096 .f32) : Vec Ideal S1x4096 .f32 := fun j => G (ix1 (j 1))

/-- A vector reshaped to one row. -/
theorem reshape_row (G : FVec Ideal S4096 .f32) (j : S1x4096.Idx) :
    shapeCast S1x4096 G shapeCasts_S4096_S1x4096 j = row G j := by
  pointwise [row]

/-- The scale's array when the grid begins: the argument as one row. -/
theorem gain (c : Dev nD) (j : S1x4096.Idx) : V m c main_v0 j = row (m ((c : Thread nD τ).loc main_arg1)) j := by
  have h : V m c main_v0
      = shapeCast S1x4096 (m ((c : Thread nD τ).loc main_arg1)) shapeCasts_S4096_S1x4096 := by
    entry_read
    rfl
  exact (congrFun h j).trans (reshape_row _ j)

/-- The shift's array when the grid begins: the argument as one row. -/
theorem shift (c : Dev nD) (j : S1x4096.Idx) : V m c main_v1 j = row (m ((c : Thread nD τ).loc main_arg2)) j := by
  have h : V m c main_v1
      = shapeCast S1x4096 (m ((c : Thread nD τ).loc main_arg2)) shapeCasts_S4096_S1x4096 := by
    entry_read
    rfl
  exact (congrFun h j).trans (reshape_row _ j)

/-- The scale's block. -/
theorem gain_block (c : Dev nD) (t : Fin cfg0.N) (j : S1x4096.Idx) :
    iblk m c 1 t j = row (m ((c : Thread nD τ).loc main_arg1)) j := by
  refine Eq.trans ?_ (gain m c j)
  blk_point [iblk, idx t]

/-- The shift's block. -/
theorem shift_block (c : Dev nD) (t : Fin cfg0.N) (j : S1x4096.Idx) :
    iblk m c 2 t j = row (m ((c : Thread nD τ).loc main_arg2)) j := by
  refine Eq.trans ?_ (shift m c j)
  blk_point [iblk, idx t]

/-- What the body stores at an index of its first block is the reference's result at the array's index. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2))
      (((cfg0.win 3).blk t).view.emb y) := by
  rw [show iblk m c 1 t = row (m ((c : Thread nD τ).loc main_arg1)) from funext fun j => gain_block m c t j,
    show iblk m c 2 t = row (m ((c : Thread nD τ).loc main_arg2)) from funext fun j => shift_block m c t j]
  pointwise [row, k0_pay1, ref, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  blk_point [iblk, V, idx t]

/-- What the body stores at an index of its second block is the reference's result at the array's index. -/
theorem point2 (c : Dev nD) (t : Fin cfg0.N) (y) : k0_pay2 (iblk m c 0 t) (iblk m c 1 t) (iblk m c 2 t) y
    = ref2 (m ((c : Thread nD τ).loc main_arg0)) (m ((c : Thread nD τ).loc main_arg1)) (m ((c : Thread nD τ).loc main_arg2))
      (((cfg0.win 4).blk t).view.emb y) := by
  rw [show iblk m c 1 t = row (m ((c : Thread nD τ).loc main_arg1)) from funext fun j => gain_block m c t j,
    show iblk m c 2 t = row (m ((c : Thread nD τ).loc main_arg2)) from funext fun j => shift_block m c t j]
  pointwise [row, k0_pay1, k0_pay2, ref2, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  blk_point [iblk, V, idx t]

/-- The first result array after the run. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The second result array after the run. -/
theorem final2 (c : Dev nD) : (dats m 0 c).arrAt 4 cfg0.N
    = ref2 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point2 m c t y

end Cert.LnInIdeal.Product

end
-- ==== Proof.WInValue.lean ====
/-
  The layout of the input projection's weights: what the kernel's result array ends holding is the reference's.
-/
module

public import proofs.«01_k».proof.Defs
public import proofs.«01_k».proof.Proof.LnInValue
public import proofs.«01_k».proof.Proof.Gen.WInIdeal.Value
public import proofs.«01_k».proof.Proof.Gen.WInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WInIdeal.Product

open Cert.WInIdeal Cert.WInIdeal.Gen Cert.WInRefIdeal.Read

variable (m : (ℓ : Loc nD τ sig) → Buf (Elt Ideal) ℓ)

/-- The reference's result, of the weights. -/
abbrev ref (W : FVec Ideal S2x4096x21776 .f32) : FVec Ideal S2x22016x4096 .bf16 := val_main_v15 (F := Ideal) W

/-- The column of the weights that a row of the layout holds: the gates, the delta rule's queries, keys and values, the
recurrence's four parts, the delta rule's gate, the attention's queries, keys and values, the two small columns. -/
def col (r : ℕ) : ℕ :=
  if r < 12288 then r + 9488 else if r < 15360 then r - 12288 + 4096 else if r < 19456 then r - 15360
  else if r < 20480 then r - 19456 + 7168 else if r < 21760 then r - 20480 + 8208 else r - 21760 + 8192

/-- It is a column of the weights for every row that is not a zero row. -/
theorem col_lt (r : ℕ) (h : r < 21776) : col r < 21776 := by
  unfold col; split_ifs <;> omega

/-- A block of the layout, of the block of the transposed weights. -/
def word (x : Vec Ideal S1x21776x128 .f32) (y : S1x22016x128.Idx) : EReal :=
  if h : (y 1).val < 21776 then x (ix3 (y 0) ⟨col (y 1).val, col_lt _ h⟩ (y 2)) else 0

/-- The layout, of the weights. -/
def lay (W : FVec Ideal S2x4096x21776 .f32) (i : S2x22016x4096.Idx) : EReal :=
  if h : (i 1).val < 21776 then W (ix3 (i 0) (i 2) ⟨col (i 1).val, col_lt _ h⟩) else 0

/-- The windows' block indices at a grid point. -/
theorem idx : ∀ t : Fin cfg0.N, win0_0.index t = ![t.val / 32, 0, t.val % 32]
    ∧ win0_1.index t = ![t.val / 32, 0, t.val % 32] :=
  (by decide +kernel : ∀ t : Fin grid0.N, _)

/-- The transposed weights when the grid begins. -/
theorem turned (c : Dev nD) (j : S2x21776x4096.Idx) :
    V m c main_v0 j = (m ((c : Thread nD τ).loc main_arg0) : FVec Ideal S2x4096x21776 .f32) (ix3 (j 0) (j 2) (j 1)) := by
  have h : V m c main_v0 = transpose S2x21776x4096 [0, 2, 1] (m ((c : Thread nD τ).loc main_arg0))
      transposes_S2x4096x21776_S2x21776x4096_0_2_1 := by
    entry_read
    rfl
  refine (congrFun h j).trans ?_
  pointwise []

/-- A block of the layout at a row that holds a column. -/
theorem word_row (x : Vec Ideal S1x21776x128 .f32) (y : S1x22016x128.Idx) (a : Fin 1) (k : Fin 128) (n : ℕ)
    (hn : n < 21776) (h : (y 1).val < 21776) (e : n = col (y 1).val) (e2 : k.val = (y 2).val) :
    x (ix3 a ⟨n, hn⟩ k) = word x y := by
  unfold word
  rw [dif_pos h]
  subst e
  have e0 : a = y 0 := Subsingleton.elim _ _
  have e3 : k = y 2 := Fin.ext e2
  rw [e0, e3]

/-- A block of the layout at a zero row. -/
theorem word_zero (x : Vec Ideal S1x21776x128 .f32) (y : S1x22016x128.Idx) (h : 21776 ≤ (y 1).val) :
    0 = word x y := by
  unfold word
  rw [dif_neg (by omega)]

/-- What the body leaves in its block. -/
theorem block_word (c : Dev nD) (i : grid0.Coords) (a2 : Memref sig .tc .vmem S1x21776x128 .f32) (h2 : a2.IsWhole)
    (a3 : Memref sig .tc .vmem S1x22016x128 .bf16) (h3 : a3.IsWhole) (x : Vec Ideal S1x21776x128 .f32) (y) :
    out0_A_1 c i a2 h2 a3 h3 x y = word x y := by
  unfold out0_A_1
  refine View.read_writes_apply_of_pieces _ _ (word x) _ ?_ y (cover0_A_1 c i a2 h2 a3 h3 x y)
  unfold kernelRun0_A
  intro p hp
  simp only [List.mem_cons, List.not_mem_nil, or_false] at hp
  rcases hp with rfl | rfl | rfl | rfl | rfl | rfl | rfl
  all_goals intro z
  · have hz : (z 1).val < 240 := (z 1).isLt
    simp only [View.readAt_eq_ld, Memref.IsWhole.read_unread]
    pointwise [k0_pay3]
    refine word_zero x _ ?_
    show 21776 ≤ 21776 + 1 * (z 1).val
    omega
  · have hz : (z 1).val < 16 := (z 1).isLt
    simp only [View.readAt_eq_ld, Memref.IsWhole.read_unread]
    pointwise [k0_pay2]
    refine word_row x _ _ _ _ _ ?_ ?_ ?_
    · show 21760 + 1 * (z 1).val < 21776
      omega
    · show _ = col (21760 + 1 * (z 1).val)
      unfold col
      split_ifs <;> omega
    · show (z 2).val = 0 + 1 * (z 2).val
      omega
  · have hz : (z 1).val < 1280 := (z 1).isLt
    sl_unfold_run_names
    simp only [View.readAt_eq_ld, Memref.IsWhole.read_unread]
    pointwise [k0_pay1, k0_pay8]
    refine word_row x _ _ _ _ _ ?_ ?_ ?_
    · show 20480 + 1 * (z 1).val < 21776
      omega
    · show _ = col (20480 + 1 * (z 1).val)
      unfold col
      split_ifs <;> omega
    · show (z 2).val = 0 + 1 * (z 2).val
      omega
  · have hz : (z 1).val < 1024 := (z 1).isLt
    simp only [View.readAt_eq_ld, Memref.IsWhole.read_unread]
    pointwise [k0_pay7]
    refine word_row x _ _ _ _ _ ?_ ?_ ?_
    · show 19456 + 1 * (z 1).val < 21776
      omega
    · show _ = col (19456 + 1 * (z 1).val)
      unfold col
      split_ifs <;> omega
    · show (z 2).val = 0 + 1 * (z 2).val
      omega
  · have hz : (z 1).val < 4096 := (z 1).isLt
    simp only [View.readAt_eq_ld, Memref.IsWhole.read_unread]
    pointwise [k0_pay6]
    refine word_row x _ _ _ _ _ ?_ ?_ ?_
    · show 15360 + 1 * (z 1).val < 21776
      omega
    · show _ = col (15360 + 1 * (z 1).val)
      unfold col
      split_ifs <;> omega
    · show (z 2).val = 0 + 1 * (z 2).val
      omega
  · have hz : (z 1).val < 3072 := (z 1).isLt
    simp only [View.readAt_eq_ld, Memref.IsWhole.read_unread]
    pointwise [k0_pay5]
    refine word_row x _ _ _ _ _ ?_ ?_ ?_
    · show 12288 + 1 * (z 1).val < 21776
      omega
    · show _ = col (12288 + 1 * (z 1).val)
      unfold col
      split_ifs <;> omega
    · show (z 2).val = 0 + 1 * (z 2).val
      omega
  · have hz : (z 1).val < 12288 := (z 1).isLt
    simp only [View.readAt_eq_ld, Memref.IsWhole.read_unread]
    pointwise [k0_pay4]
    refine word_row x _ _ _ _ _ ?_ ?_ ?_
    · show 0 + 1 * (z 1).val < 21776
      omega
    · show _ = col (0 + 1 * (z 1).val)
      unfold col
      split_ifs <;> omega
    · show (z 2).val = 0 + 1 * (z 2).val
      omega

/-- The weights at one column, named twice. -/
theorem same_col (W : FVec Ideal S2x4096x21776 .f32) (i0 : Fin 2) (i2 : Fin 4096) (n k : ℕ) (hn : n < 21776)
    (hk : k < 21776) (h : n = k) : W (ix3 i0 i2 ⟨n, hn⟩) = W (ix3 i0 i2 ⟨k, hk⟩) := by
  subst h; rfl

/-- The reference is the layout. -/
theorem ref_lay (W : FVec Ideal S2x4096x21776 .f32) (i) : ref W i = lay W i := by
  unfold lay
  have hi : (i 1).val < 22016 := (i 1).isLt
  pointwise [ref, val_main_v15, val_main_v14, val_main_v13, val_main_v12, val_main_v11, val_main_v10, val_main_v9, val_main_v8, val_main_v7, val_main_v6, val_main_v5, val_main_v4, val_main_v3, val_main_v2, val_main_v1, val_main_v0, val_main_cst]
  by_cases h0 : (i 1).val < 12288
  · rw [dif_pos h0, dif_pos (by omega)]
    refine same_col W _ _ _ _ _ _ ?_
    unfold col
    split_ifs <;> omega
  rw [dif_neg h0]
  by_cases h1 : (i 1).val - 12288 < 3072
  · rw [dif_pos h1, dif_pos (by omega)]
    refine same_col W _ _ _ _ _ _ ?_
    unfold col
    split_ifs <;> omega
  rw [dif_neg h1]
  by_cases h2 : (i 1).val - 12288 - 3072 < 1024
  · rw [dif_pos h2, dif_pos (by omega)]
    refine same_col W _ _ _ _ _ _ ?_
    unfold col
    split_ifs <;> omega
  rw [dif_neg h2]
  by_cases h3 : (i 1).val - 12288 - 3072 - 1024 < 1024
  · rw [dif_pos h3, dif_pos (by omega)]
    refine same_col W _ _ _ _ _ _ ?_
    unfold col
    split_ifs <;> omega
  rw [dif_neg h3]
  by_cases h4 : (i 1).val - 12288 - 3072 - 1024 - 1024 < 1024
  · rw [dif_pos h4, dif_pos (by omega)]
    refine same_col W _ _ _ _ _ _ ?_
    unfold col
    split_ifs <;> omega
  rw [dif_neg h4]
  by_cases h5 : (i 1).val - 12288 - 3072 - 1024 - 1024 - 1024 < 1024
  · rw [dif_pos h5, dif_pos (by omega)]
    refine same_col W _ _ _ _ _ _ ?_
    unfold col
    split_ifs <;> omega
  rw [dif_neg h5]
  by_cases h6 : (i 1).val - 12288 - 3072 - 1024 - 1024 - 1024 - 1024 < 1024
  · rw [dif_pos h6, dif_pos (by omega)]
    refine same_col W _ _ _ _ _ _ ?_
    unfold col
    split_ifs <;> omega
  rw [dif_neg h6]
  by_cases h7 : (i 1).val - 12288 - 3072 - 1024 - 1024 - 1024 - 1024 - 1024 < 1024
  · rw [dif_pos h7, dif_pos (by omega)]
    refine same_col W _ _ _ _ _ _ ?_
    unfold col
    split_ifs <;> omega
  rw [dif_neg h7]
  by_cases h8 : (i 1).val - 12288 - 3072 - 1024 - 1024 - 1024 - 1024 - 1024 - 1024 < 128
  · rw [dif_pos h8, dif_pos (by omega)]
    refine same_col W _ _ _ _ _ _ ?_
    unfold col
    split_ifs <;> omega
  rw [dif_neg h8]
  by_cases h9 : (i 1).val - 12288 - 3072 - 1024 - 1024 - 1024 - 1024 - 1024 - 1024 - 128 < 128
  · rw [dif_pos h9, dif_pos (by omega)]
    refine same_col W _ _ _ _ _ _ ?_
    unfold col
    split_ifs <;> omega
  rw [dif_neg h9]
  by_cases h10 : (i 1).val - 12288 - 3072 - 1024 - 1024 - 1024 - 1024 - 1024 - 1024 - 128 - 128 < 8
  · rw [dif_pos h10, dif_pos (by omega)]
    refine same_col W _ _ _ _ _ _ ?_
    unfold col
    split_ifs <;> omega
  rw [dif_neg h10]
  by_cases h11 : (i 1).val - 12288 - 3072 - 1024 - 1024 - 1024 - 1024 - 1024 - 1024 - 128 - 128 - 8 < 8
  · rw [dif_pos h11, dif_pos (by omega)]
    refine same_col W _ _ _ _ _ _ ?_
    unfold col
    split_ifs <;> omega
  rw [dif_neg h11]
  rw [dif_neg (by omega)]

/-- A point's block is the layout there. -/
theorem point (c : Dev nD) (t : Fin cfg0.N) (y) : word (iblk m c 0 t) y
    = lay (m ((c : Thread nD τ).loc main_arg0)) (((cfg0.win 1).blk t).view.emb y) := by
  have e : (((cfg0.win 1).blk t).view.emb y 1).val = (y 1).val := by
    blk_simp
    rw [(idx t).2]
    simp
  unfold word lay
  by_cases h : (y 1).val < 21776
  · rw [dif_pos h, dif_pos (by rw [e]; exact h)]
    simp only [e]
    generalize hk : (⟨col (y 1).val, col_lt _ h⟩ : Fin 21776) = k
    have q : iblk m c 0 t (ix3 (y 0) k (y 2)) = V m c main_v0 (ix3 (((cfg0.win 1).blk t).view.emb y 0) k (((cfg0.win 1).blk t).view.emb y 2)) := by
      blk_point [iblk, idx t]
    exact q.trans (turned m c _)
  · rw [dif_neg h, dif_neg (by rw [e]; exact h)]

/-- The result array after the run. -/
theorem final (c : Dev nD) : (dats m 0 c).arrAt 1 cfg0.N = ref (m ((c : Thread nD τ).loc main_arg0)) := by
  refine (dats m 0 c).arrAt_eq_of_covers 1 _ (by decide +kernel) fun t _ y => ?_
  blk_simp
  rw [after0_1]
  unfold outsAt0
  rw [block_word, ref_lay]
  exact point m c t y

end Cert.WInIdeal.Product

end
-- ==== Proof.PairsMore.lean ====
/-
  Two more calls, the layout of the input projection's weights and the first layer norm: each kernel, read at the ideal
  instance, and its reference run from the same arguments and end with equal results, the arguments unchanged.
-/
module

public import proofs.«01_k».proof.Defs
public import proofs.«01_k».proof.Proof.WInValue
public import proofs.«01_k».proof.Proof.Gen.WInRefIdeal.Run
public import proofs.«01_k».proof.Proof.Gen.LnInRefIdeal.Run

@[expose] public section

set_option maxRecDepth 16384

noncomputable section

open Idealize.ShloMosaic Idealize.SL.Sem

namespace Cert.Pairs

/-- The pair of `WIn`. -/
theorem pairWIn : Cert.algebraic_WInIdeal_WInRefIdeal := by
  intro m g m' g' _ hagree
  refine ⟨fun c => Cert.WInIdeal.Product.ref (m ((c.tc : Thread Cert.WInIdeal.nD Cert.WInIdeal.τ).loc Cert.WInIdeal.main_arg0)), ?_, ?_⟩
  · exact (θ_run _ _ _).mono (fun r h c => ⟨(h c).1.trans (Cert.WInIdeal.Product.final m c), (h c).2⟩)
      (Cert.WInIdeal.Value.run_blocks m g)
  · refine (θ_run _ _ _).mono (fun r h c => ⟨(h c).1.trans ?_, (h c).2⟩) (Cert.WInRefIdeal.Value.run m' g')
    have h0 := hagree c
    rw [h0]
    exact Cert.WInRefIdeal.Read.val_main_v15_eq (F := Ideal) _

/-- The pair of `LnIn`, of two results. -/
theorem pairLnIn : Cert.algebraic_LnInIdeal_LnInRefIdeal := by
  intro m g m' g' _ hagree
  refine ⟨fun c => Cert.LnInIdeal.Product.ref (m ((c.tc : Thread Cert.LnInIdeal.nD Cert.LnInIdeal.τ).loc Cert.LnInIdeal.main_arg0)) (m ((c.tc : Thread Cert.LnInIdeal.nD Cert.LnInIdeal.τ).loc Cert.LnInIdeal.main_arg1)) (m ((c.tc : Thread Cert.LnInIdeal.nD Cert.LnInIdeal.τ).loc Cert.LnInIdeal.main_arg2)),
    fun c => Cert.LnInIdeal.Product.ref2 (m ((c.tc : Thread Cert.LnInIdeal.nD Cert.LnInIdeal.τ).loc Cert.LnInIdeal.main_arg0)) (m ((c.tc : Thread Cert.LnInIdeal.nD Cert.LnInIdeal.τ).loc Cert.LnInIdeal.main_arg1)) (m ((c.tc : Thread Cert.LnInIdeal.nD Cert.LnInIdeal.τ).loc Cert.LnInIdeal.main_arg2)), ?_, ?_⟩
  · exact (θ_run _ _ _).mono (fun r h c => ⟨(h c).1.trans (Cert.LnInIdeal.Product.final m c),
      (h c).2.1.trans (Cert.LnInIdeal.Product.final2 m c), (h c).2.2⟩) (Cert.LnInIdeal.Value.run_blocks m g)
  · refine (θ_run _ _ _).mono (fun r h c => ⟨(h c).1.trans ?_, (h c).2.1.trans ?_, (h c).2.2⟩) (Cert.LnInRefIdeal.Value.run m' g')
    · obtain ⟨h0, h1, h2⟩ := hagree c
      rw [h0, h1, h2]
      exact Cert.LnInRefIdeal.Read.val_main_v23_eq (F := Ideal) _ _ _
    · obtain ⟨h0, h1, h2⟩ := hagree c
      rw [h0, h1, h2]
      exact Cert.LnInRefIdeal.Read.val_main_v24_eq (F := Ideal) _ _ _

end Cert.Pairs

end
-- ==== Proof.lean ====
/-
  The claim: every program ends from every memory with its arguments kept, each kernel's ideal text keeps the
  kernel's, and at the ideal instance each kernel and its reference end with equal results.
-/
module

public import proofs.«01_k».proof.Defs
public import proofs.«01_k».proof.Proof.Gen.Swa
public import proofs.«01_k».proof.Proof.Gen.SwaIdeal
public import proofs.«01_k».proof.Proof.Gen.SwaRefIdeal
public import proofs.«01_k».proof.Proof.Gen.InGates
public import proofs.«01_k».proof.Proof.Gen.InGatesIdeal
public import proofs.«01_k».proof.Proof.Gen.InGatesRefIdeal
public import proofs.«01_k».proof.Proof.Gen.InProj
public import proofs.«01_k».proof.Proof.Gen.InProjIdeal
public import proofs.«01_k».proof.Proof.Gen.InProjRefIdeal
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.Glu
public import proofs.«01_k».proof.Proof.Gen.GluIdeal
public import proofs.«01_k».proof.Proof.Gen.GluRefIdeal
public import proofs.«01_k».proof.Proof.Gen.Down
public import proofs.«01_k».proof.Proof.Gen.DownIdeal
public import proofs.«01_k».proof.Proof.Gen.DownRefIdeal
public import proofs.«01_k».proof.Proof.Gen.LnRes
public import proofs.«01_k».proof.Proof.Gen.LnResIdeal
public import proofs.«01_k».proof.Proof.Gen.LnResRefIdeal
public import proofs.«01_k».proof.Proof.Gen.WIn
public import proofs.«01_k».proof.Proof.Gen.WInIdeal
public import proofs.«01_k».proof.Proof.Gen.WInRefIdeal
public import proofs.«01_k».proof.Proof.Gen.LnIn
public import proofs.«01_k».proof.Proof.Gen.LnInIdeal
public import proofs.«01_k».proof.Proof.Gen.LnInRefIdeal
public import proofs.«01_k».proof.Proof.Gen.Swa.Frame
public import proofs.«01_k».proof.Proof.Gen.SwaIdeal.Frame
public import proofs.«01_k».proof.Proof.Gen.InGates.Frame
public import proofs.«01_k».proof.Proof.Gen.InGatesIdeal.Frame
public import proofs.«01_k».proof.Proof.Gen.InProj.Frame
public import proofs.«01_k».proof.Proof.Gen.InProjIdeal.Frame
public import proofs.«01_k».proof.Proof.Gen.Merge.Frame
public import proofs.«01_k».proof.Proof.Gen.MergeIdeal.Frame
public import proofs.«01_k».proof.Proof.Gen.OutProj.Frame
public import proofs.«01_k».proof.Proof.Gen.OutProjIdeal.Frame
public import proofs.«01_k».proof.Proof.Gen.Glu.Frame
public import proofs.«01_k».proof.Proof.Gen.GluIdeal.Frame
public import proofs.«01_k».proof.Proof.Gen.Down.Frame
public import proofs.«01_k».proof.Proof.Gen.DownIdeal.Frame
public import proofs.«01_k».proof.Proof.Gen.LnRes.Frame
public import proofs.«01_k».proof.Proof.Gen.LnResIdeal.Frame
public import proofs.«01_k».proof.Proof.Gen.WIn.Frame
public import proofs.«01_k».proof.Proof.Gen.WInIdeal.Frame
public import proofs.«01_k».proof.Proof.Gen.LnIn.Frame
public import proofs.«01_k».proof.Proof.Gen.LnInIdeal.Frame
public import proofs.«01_k».proof.Proof.Gen.SwaRefIdeal.Run
public import proofs.«01_k».proof.Proof.Gen.InGatesRefIdeal.Run
public import proofs.«01_k».proof.Proof.Gen.InProjRefIdeal.Run
public import proofs.«01_k».proof.Proof.Gen.MergeRefIdeal.Run
public import proofs.«01_k».proof.Proof.Gen.OutProjRefIdeal.Run
public import proofs.«01_k».proof.Proof.Gen.GluRefIdeal.Run
public import proofs.«01_k».proof.Proof.Gen.DownRefIdeal.Run
public import proofs.«01_k».proof.Proof.Gen.LnResRefIdeal.Run
public import proofs.«01_k».proof.Proof.Gen.WInRefIdeal.Run
public import proofs.«01_k».proof.Proof.Gen.LnInRefIdeal.Run
public import proofs.«01_k».proof.Proof.Pairs
public import proofs.«01_k».proof.Proof.SwaPair
public import proofs.«01_k».proof.Proof.PairsMore
public import Idealize.ShloMosaic.Lib.Quiescent
public import Idealize.ShloMosaic.Adequacy
public import Idealize.ShloMosaic.Init

@[expose] public section

noncomputable section

namespace Cert.Proof

open Idealize.ShloMosaic Idealize.SL.Sem

/-- The named constants are the printed ones: each is its literal's value at the ideal instance. -/
theorem preservesSwa : Cert.preserves_Swa_SwaIdeal :=
  ⟨IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl⟩

/-- The precondition's side conditions. -/
instance factsPre : Cert.Pre_swa_finite.Facts where
  slices_S16384x9728_S16384x1152_0_8192 := by decide
  bcast_S_S16384x1152 := by decide
  bcast_S_S16 := by decide

/-- The whole claim. -/
theorem claim : Cert.Claim :=
  ⟨Cert.Swa.Gen.facts, Cert.SwaIdeal.Gen.facts, Cert.SwaRefIdeal.Gen.facts, Cert.InGates.Gen.facts,
    Cert.InGatesIdeal.Gen.facts, Cert.InGatesRefIdeal.Gen.facts, Cert.InProj.Gen.facts,
    Cert.InProjIdeal.Gen.facts, Cert.InProjRefIdeal.Gen.facts, Cert.Merge.Gen.facts, Cert.MergeIdeal.Gen.facts,
    Cert.MergeRefIdeal.Gen.facts, Cert.OutProj.Gen.facts, Cert.OutProjIdeal.Gen.facts,
    Cert.OutProjRefIdeal.Gen.facts, Cert.Glu.Gen.facts, Cert.GluIdeal.Gen.facts, Cert.GluRefIdeal.Gen.facts,
    Cert.Down.Gen.facts, Cert.DownIdeal.Gen.facts, Cert.DownRefIdeal.Gen.facts, Cert.LnRes.Gen.facts,
    Cert.LnResIdeal.Gen.facts, Cert.LnResRefIdeal.Gen.facts, Cert.WIn.Gen.facts, Cert.WInIdeal.Gen.facts,
    Cert.WInRefIdeal.Gen.facts, Cert.LnIn.Gen.facts, Cert.LnInIdeal.Gen.facts, Cert.LnInRefIdeal.Gen.facts,
    factsPre,
    fun m g _ => Cert.Swa.Gen.frame m g,
    fun m g _ => Cert.SwaIdeal.Gen.frame m g,
    fun m g _ => Cert.SwaIdeal.Gen.frame m g,
    fun m g _ => (θ_run _ _ _).mono (fun r h => ⟨fun c => (h c).2, sem_eq_zero_of_no_sems rfl _⟩) (Cert.SwaRefIdeal.Value.run m g),
    fun m g _ => (θ_run _ _ _).mono (fun r h => ⟨fun c => (h c).2, sem_eq_zero_of_no_sems rfl _⟩) (Cert.SwaRefIdeal.Value.run m g),
    fun m g _ => Cert.InGates.Gen.frame m g,
    fun m g _ => Cert.InGatesIdeal.Gen.frame m g,
    fun m g _ => (θ_run _ _ _).mono (fun r h => ⟨fun c => (h c).2, sem_eq_zero_of_no_sems rfl _⟩) (Cert.InGatesRefIdeal.Value.run m g),
    fun m g _ => Cert.InProj.Gen.frame m g,
    fun m g _ => Cert.InProjIdeal.Gen.frame m g,
    fun m g _ => (θ_run _ _ _).mono (fun r h => ⟨fun c => (h c).2, sem_eq_zero_of_no_sems rfl _⟩) (Cert.InProjRefIdeal.Value.run m g),
    fun m g _ => Cert.Merge.Gen.frame m g,
    fun m g _ => Cert.MergeIdeal.Gen.frame m g,
    fun m g _ => (θ_run _ _ _).mono (fun r h => ⟨fun c => (h c).2, sem_eq_zero_of_no_sems rfl _⟩) (Cert.MergeRefIdeal.Value.run m g),
    fun m g _ => Cert.OutProj.Gen.frame m g,
    fun m g _ => Cert.OutProjIdeal.Gen.frame m g,
    fun m g _ => (θ_run _ _ _).mono (fun r h => ⟨fun c => (h c).2, sem_eq_zero_of_no_sems rfl _⟩) (Cert.OutProjRefIdeal.Value.run m g),
    fun m g _ => Cert.Glu.Gen.frame m g,
    fun m g _ => Cert.GluIdeal.Gen.frame m g,
    fun m g _ => (θ_run _ _ _).mono (fun r h => ⟨fun c => (h c).2, sem_eq_zero_of_no_sems rfl _⟩) (Cert.GluRefIdeal.Value.run m g),
    fun m g _ => Cert.Down.Gen.frame m g,
    fun m g _ => Cert.DownIdeal.Gen.frame m g,
    fun m g _ => (θ_run _ _ _).mono (fun r h => ⟨fun c => (h c).2, sem_eq_zero_of_no_sems rfl _⟩) (Cert.DownRefIdeal.Value.run m g),
    fun m g _ => Cert.LnRes.Gen.frame m g,
    fun m g _ => Cert.LnResIdeal.Gen.frame m g,
    fun m g _ => (θ_run _ _ _).mono (fun r h => ⟨fun c => (h c).2.2, sem_eq_zero_of_no_sems rfl _⟩) (Cert.LnResRefIdeal.Value.run m g),
    fun m g _ => Cert.WIn.Gen.frame m g,
    fun m g _ => Cert.WInIdeal.Gen.frame m g,
    fun m g _ => (θ_run _ _ _).mono (fun r h => ⟨fun c => (h c).2, sem_eq_zero_of_no_sems rfl _⟩) (Cert.WInRefIdeal.Value.run m g),
    fun m g _ => Cert.LnIn.Gen.frame m g,
    fun m g _ => Cert.LnInIdeal.Gen.frame m g,
    fun m g _ => (θ_run _ _ _).mono (fun r h => ⟨fun c => (h c).2.2, sem_eq_zero_of_no_sems rfl _⟩) (Cert.LnInRefIdeal.Value.run m g),
    preservesSwa,
    Cert.Pairs.pairSwa,
    trivial,
    Cert.Pairs.pairInGates,
    trivial,
    Cert.Pairs.pairInProj,
    trivial,
    Cert.Pairs.pairMerge,
    trivial,
    Cert.Pairs.pairOutProj,
    trivial,
    Cert.Pairs.pairGlu,
    trivial,
    Cert.Pairs.pairDown,
    trivial,
    Cert.Pairs.pairLnRes,
    trivial,
    Cert.Pairs.pairWIn,
    trivial,
    Cert.Pairs.pairLnIn⟩

end Cert.Proof

end
